-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  True

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v9)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v36) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v11)) (v1 : (c : Dev Cert.ProjIdeal.nD) → Buf (Elt Ideal) ((c.tc : Thread Cert.ProjIdeal.nD Cert.ProjIdeal.τ).loc Cert.ProjIdeal.main_v12)) (v2 : (c : Dev Cert.ProjIdeal.nD) → Buf (Elt Ideal) ((c.tc : Thread Cert.ProjIdeal.nD Cert.ProjIdeal.τ).loc Cert.ProjIdeal.main_v13)) (v3 : (c : Dev Cert.ProjIdeal.nD) → Buf (Elt Ideal) ((c.tc : Thread Cert.ProjIdeal.nD Cert.ProjIdeal.τ).loc Cert.ProjIdeal.main_v14)) (v4 : (c : Dev Cert.ProjIdeal.nD) → Buf (Elt Ideal) ((c.tc : Thread Cert.ProjIdeal.nD Cert.ProjIdeal.τ).loc Cert.ProjIdeal.main_v15)) (v5 : (c : Dev Cert.ProjIdeal.nD) → Buf (Elt Ideal) ((c.tc : Thread Cert.ProjIdeal.nD Cert.ProjIdeal.τ).loc Cert.ProjIdeal.main_v16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11) = v0 c
          ∧ r.2.mem ((c.tc : Thread Cert.ProjIdeal.nD Cert.ProjIdeal.τ).loc Cert.ProjIdeal.main_v12) = v1 c
          ∧ r.2.mem ((c.tc : Thread Cert.ProjIdeal.nD Cert.ProjIdeal.τ).loc Cert.ProjIdeal.main_v13) = v2 c
          ∧ r.2.mem ((c.tc : Thread Cert.ProjIdeal.nD Cert.ProjIdeal.τ).loc Cert.ProjIdeal.main_v14) = v3 c
          ∧ r.2.mem ((c.tc : Thread Cert.ProjIdeal.nD Cert.ProjIdeal.τ).loc Cert.ProjIdeal.main_v15) = v4 c
          ∧ r.2.mem ((c.tc : Thread Cert.ProjIdeal.nD Cert.ProjIdeal.τ).loc Cert.ProjIdeal.main_v16) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v14) = v0 c
          ∧ r.2.mem ((c.tc : Thread Cert.ProjReferenceIdeal.nD Cert.ProjReferenceIdeal.τ).loc Cert.ProjReferenceIdeal.main_v15) = v1 c
          ∧ r.2.mem ((c.tc : Thread Cert.ProjReferenceIdeal.nD Cert.ProjReferenceIdeal.τ).loc Cert.ProjReferenceIdeal.main_v16) = v2 c
          ∧ r.2.mem ((c.tc : Thread Cert.ProjReferenceIdeal.nD Cert.ProjReferenceIdeal.τ).loc Cert.ProjReferenceIdeal.main_v17) = v3 c
          ∧ r.2.mem ((c.tc : Thread Cert.ProjReferenceIdeal.nD Cert.ProjReferenceIdeal.τ).loc Cert.ProjReferenceIdeal.main_v18) = v4 c
          ∧ r.2.mem ((c.tc : Thread Cert.ProjReferenceIdeal.nD Cert.ProjReferenceIdeal.τ).loc Cert.ProjReferenceIdeal.main_v19) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
-- ==== Kernel.lean ====
abbrev S8x2048x1024 : Shape := ⟨3, ![8, 2048, 1024]⟩
abbrev S16x1024 : Shape := ⟨2, ![16, 1024]⟩
abbrev S32x8 : Shape := ⟨2, ![32, 8]⟩
abbrev S64 : Shape := ⟨1, ![64]⟩
abbrev S128 : Shape := ⟨1, ![128]⟩
abbrev S16384x1024 : Shape := ⟨2, ![16384, 1024]⟩
abbrev S_ : Shape := ⟨0, ![]⟩
abbrev S32x512x8x128 : Shape := ⟨4, ![32, 512, 8, 128]⟩
abbrev S32x8x128x512 : Shape := ⟨4, ![32, 8, 128, 512]⟩
abbrev S32x8x16x512 : Shape := ⟨4, ![32, 8, 16, 512]⟩
abbrev S32x8x144x512 : Shape := ⟨4, ![32, 8, 144, 512]⟩
abbrev S32x1152x512 : Shape := ⟨3, ![32, 1152, 512]⟩
abbrev S1x16x8x128 : Shape := ⟨4, ![1, 16, 8, 128]⟩
abbrev S1x8x128x16 : Shape := ⟨4, ![1, 8, 128, 16]⟩
abbrev S1x8x16x16 : Shape := ⟨4, ![1, 8, 16, 16]⟩
abbrev S1x8x144x16 : Shape := ⟨4, ![1, 8, 144, 16]⟩
abbrev S1x1152x16 : Shape := ⟨3, ![1, 1152, 16]⟩
abbrev S1152x16 : Shape := ⟨2, ![1152, 16]⟩
abbrev S1x64 : Shape := ⟨2, ![1, 64]⟩
abbrev S4x64 : Shape := ⟨2, ![4, 64]⟩
abbrev S1x8 : Shape := ⟨2, ![1, 8]⟩
abbrev S8 : Shape := ⟨1, ![8]⟩
abbrev S3x512x512 : Shape := ⟨3, ![3, 512, 512]⟩
abbrev S3x512x512x1 : Shape := ⟨4, ![3, 512, 512, 1]⟩
abbrev S3x512x512x8 : Shape := ⟨4, ![3, 512, 512, 8]⟩
abbrev S8x3x512x512 : Shape := ⟨4, ![8, 3, 512, 512]⟩
abbrev S8x1x1x1 : Shape := ⟨4, ![8, 1, 1, 1]⟩
abbrev S8x1x512x512 : Shape := ⟨4, ![8, 1, 512, 512]⟩
abbrev S8x5x512x512 : Shape := ⟨4, ![8, 5, 512, 512]⟩
abbrev S1x16x2048 : Shape := ⟨3, ![1, 16, 2048]⟩
abbrev S1x16x2048x1 : Shape := ⟨4, ![1, 16, 2048, 1]⟩
abbrev S1x16x2048x8 : Shape := ⟨4, ![1, 16, 2048, 8]⟩
abbrev S8x1x16x2048 : Shape := ⟨4, ![8, 1, 16, 2048]⟩
abbrev S8x2x16x2048 : Shape := ⟨4, ![8, 2, 16, 2048]⟩
abbrev S8x1x1 : Shape := ⟨3, ![8, 1, 1]⟩
abbrev S8x1x128 : Shape := ⟨3, ![8, 1, 128]⟩
abbrev S8x6x128 : Shape := ⟨3, ![8, 6, 128]⟩
abbrev S8x8x128 : Shape := ⟨3, ![8, 8, 128]⟩
abbrev S128x1 : Shape := ⟨2, ![128, 1]⟩
abbrev S2048x128 : Shape := ⟨2, ![2048, 128]⟩
abbrev S4x144x512 : Shape := ⟨3, ![4, 144, 512]⟩
abbrev S16x128 : Shape := ⟨2, ![16, 128]⟩
abbrev S144x16 : Shape := ⟨2, ![144, 16]⟩
abbrev S1x5x512x512 : Shape := ⟨4, ![1, 5, 512, 512]⟩
abbrev S1x2x16x2048 : Shape := ⟨4, ![1, 2, 16, 2048]⟩
abbrev S1x8x128 : Shape := ⟨3, ![1, 8, 128]⟩
abbrev S512x4096 : Shape := ⟨2, ![512, 4096]⟩
abbrev S1x4096 : Shape := ⟨2, ![1, 4096]⟩
abbrev S144x4096 : Shape := ⟨2, ![144, 4096]⟩
abbrev S1 : Shape := ⟨1, ![1]⟩
abbrev S4096x128 : Shape := ⟨2, ![4096, 128]⟩
abbrev S128x128 : Shape := ⟨2, ![128, 128]⟩
abbrev S1x128 : Shape := ⟨2, ![1, 128]⟩
abbrev S1x1 : Shape := ⟨2, ![1, 1]⟩
abbrev S1x1x1 : Shape := ⟨3, ![1, 1, 1]⟩
abbrev S128x4096 : Shape := ⟨2, ![128, 4096]⟩
abbrev S128x2048 : Shape := ⟨2, ![128, 2048]⟩
abbrev S2048 : Shape := ⟨1, ![2048]⟩
abbrev S1x2048 : Shape := ⟨2, ![1, 2048]⟩
abbrev S16x4096 : Shape := ⟨2, ![16, 4096]⟩
abbrev S1x1x16x2048 : Shape := ⟨4, ![1, 1, 16, 2048]⟩
abbrev S16x2048 : Shape := ⟨2, ![16, 2048]⟩
abbrev S512x128 : Shape := ⟨2, ![512, 128]⟩
abbrev S256x128 : Shape := ⟨2, ![256, 128]⟩
abbrev S512x256 : Shape := ⟨2, ![512, 256]⟩
abbrev S1x1x512x256 : Shape := ⟨4, ![1, 1, 512, 256]⟩
abbrev S1x256 : Shape := ⟨2, ![1, 256]⟩
abbrev S144x256 : Shape := ⟨2, ![144, 256]⟩
abbrev S1x144x512 : Shape := ⟨3, ![1, 144, 512]⟩
abbrev S144x512 : Shape := ⟨2, ![144, 512]⟩
abbrev S4096 : Shape := ⟨1, ![4096]⟩
abbrev S256 : Shape := ⟨1, ![256]⟩

abbrev nBuf : Space → Nat
  | .hbm => 191
  | .vmem => 28
  | .smem => 1
  | _ => 0

abbrev hbmTy0_0 (i : Nat) : BufTy := match i % 128 with
  | 0 => ⟨S8x2048x1024, .f32⟩
  | 1 => ⟨S8x2048x1024, .f32⟩
  | 2 => ⟨S8x2048x1024, .f32⟩
  | 3 => ⟨S16x1024, .f32⟩
  | 4 => ⟨S16x1024, .f32⟩
  | 5 => ⟨S32x8, .f32⟩
  | 6 => ⟨S64, .f32⟩
  | 7 => ⟨S64, .f32⟩
  | 8 => ⟨S64, .f32⟩
  | 9 => ⟨S64, .f32⟩
  | 10 => ⟨S128, .f32⟩
  | 11 => ⟨S16384x1024, .f32⟩
  | 12 => ⟨S_, .f32⟩
  | 13 => ⟨S16384x1024, .f32⟩
  | 14 => ⟨S16384x1024, .f32⟩
  | 15 => ⟨S_, .f32⟩
  | 16 => ⟨S_, .f32⟩
  | 17 => ⟨S16384x1024, .f32⟩
  | 18 => ⟨S16384x1024, .f32⟩
  | 19 => ⟨S16384x1024, .bf16⟩
  | 20 => ⟨S16384x1024, .f32⟩
  | 21 => ⟨S16384x1024, .bf16⟩
  | 22 => ⟨S32x512x8x128, .f32⟩
  | 23 => ⟨S32x8x128x512, .f32⟩
  | 24 => ⟨S_, .f32⟩
  | 25 => ⟨S32x8x16x512, .f32⟩
  | 26 => ⟨S32x8x144x512, .f32⟩
  | 27 => ⟨S32x1152x512, .f32⟩
  | 28 => ⟨S32x1152x512, .bf16⟩
  | 29 => ⟨S1x16x8x128, .f32⟩
  | 30 => ⟨S1x8x128x16, .f32⟩
  | 31 => ⟨S_, .f32⟩
  | 32 => ⟨S1x8x16x16, .f32⟩
  | 33 => ⟨S1x8x144x16, .f32⟩
  | 34 => ⟨S1x1152x16, .f32⟩
  | 35 => ⟨S1x1152x16, .bf16⟩
  | 36 => ⟨S1152x16, .bf16⟩
  | 37 => ⟨S1x64, .f32⟩
  | 38 => ⟨S1x64, .f32⟩
  | 39 => ⟨S1x64, .f32⟩
  | 40 => ⟨S1x64, .f32⟩
  | 41 => ⟨S4x64, .f32⟩
  | 42 => ⟨S_, .f32⟩
  | 43 => ⟨S_, .f32⟩
  | 44 => ⟨S1x8, .f32⟩
  | 45 => ⟨S8, .f32⟩
  | 46 => ⟨S8, .f32⟩
  | 47 => ⟨S8, .f32⟩
  | 48 => ⟨S1x8, .f32⟩
  | 49 => ⟨S8, .f32⟩
  | 50 => ⟨S8, .f32⟩
  | 51 => ⟨S8, .f32⟩
  | 52 => ⟨S3x512x512, .i32⟩
  | 53 => ⟨S3x512x512, .i32⟩
  | 54 => ⟨S3x512x512, .i32⟩
  | 55 => ⟨S3x512x512, .i32⟩
  | 56 => ⟨S_, .i32⟩
  | 57 => ⟨S3x512x512, .i32⟩
  | 58 => ⟨S3x512x512, .i32⟩
  | 59 => ⟨S_, .i32⟩
  | 60 => ⟨S3x512x512, .i32⟩
  | 61 => ⟨S3x512x512, .i32⟩
  | 62 => ⟨S3x512x512, .i32⟩
  | 63 => ⟨S_, .i32⟩
  | 64 => ⟨S3x512x512, .i32⟩
  | 65 => ⟨S3x512x512, .i1⟩
  | 66 => ⟨S_, .i32⟩
  | 67 => ⟨S_, .i32⟩
  | 68 => ⟨S3x512x512, .i32⟩
  | 69 => ⟨S3x512x512, .i32⟩
  | 70 => ⟨S3x512x512, .i32⟩
  | 71 => ⟨S3x512x512, .i32⟩
  | 72 => ⟨S_, .i32⟩
  | 73 => ⟨S3x512x512, .i32⟩
  | 74 => ⟨S3x512x512, .i32⟩
  | 75 => ⟨S3x512x512, .f32⟩
  | 76 => ⟨S_, .f32⟩
  | 77 => ⟨S3x512x512, .f32⟩
  | 78 => ⟨S3x512x512, .f32⟩
  | 79 => ⟨S3x512x512, .f32⟩
  | 80 => ⟨S_, .f32⟩
  | 81 => ⟨S3x512x512, .f32⟩
  | 82 => ⟨S3x512x512, .f32⟩
  | 83 => ⟨S_, .f32⟩
  | 84 => ⟨S3x512x512, .f32⟩
  | 85 => ⟨S3x512x512, .f32⟩
  | 86 => ⟨S3x512x512, .i32⟩
  | 87 => ⟨S_, .i32⟩
  | 88 => ⟨S3x512x512, .i32⟩
  | 89 => ⟨S3x512x512, .i32⟩
  | 90 => ⟨S_, .i32⟩
  | 91 => ⟨S3x512x512, .i32⟩
  | 92 => ⟨S3x512x512, .i32⟩
  | 93 => ⟨S_, .i32⟩
  | 94 => ⟨S3x512x512, .i32⟩
  | 95 => ⟨S3x512x512, .i1⟩
  | 96 => ⟨S3x512x512, .i32⟩
  | 97 => ⟨S3x512x512, .i32⟩
  | 98 => ⟨S3x512x512, .i32⟩
  | 99 => ⟨S_, .i32⟩
  | 100 => ⟨S3x512x512, .i32⟩
  | 101 => ⟨S3x512x512, .i1⟩
  | 102 => ⟨S_, .i32⟩
  | 103 => ⟨S3x512x512, .i32⟩
  | 104 => ⟨S3x512x512, .i32⟩
  | 105 => ⟨S3x512x512, .i32⟩
  | 106 => ⟨S3x512x512x1, .i32⟩
  | 107 => ⟨S3x512x512x8, .f32⟩
  | 108 => ⟨S8x3x512x512, .f32⟩
  | 109 => ⟨S8x3x512x512, .f32⟩
  | 110 => ⟨S8x3x512x512, .f32⟩
  | 111 => ⟨S8x1x1x1, .f32⟩
  | 112 => ⟨S8x1x512x512, .f32⟩
  | 113 => ⟨S8x1x1x1, .f32⟩
  | 114 => ⟨S8x1x512x512, .f32⟩
  | 115 => ⟨S8x5x512x512, .f32⟩
  | 116 => ⟨S1x16x2048, .i32⟩
  | 117 => ⟨S1x16x2048, .i32⟩
  | 118 => ⟨S_, .i32⟩
  | 119 => ⟨S1x16x2048, .i32⟩
  | 120 => ⟨S1x16x2048, .i32⟩
  | 121 => ⟨S1x16x2048, .i32⟩
  | 122 => ⟨S_, .i32⟩
  | 123 => ⟨S1x16x2048, .i32⟩
  | 124 => ⟨S1x16x2048, .i1⟩
  | 125 => ⟨S_, .i32⟩
  | 126 => ⟨S_, .i32⟩
  | 127 => ⟨S1x16x2048, .i32⟩
  | _ => ⟨S8x2048x1024, .f32⟩

abbrev hbmTy0_1 (i : Nat) : BufTy := match i % 128 with
  | 0 => ⟨S1x16x2048, .i32⟩
  | 1 => ⟨S1x16x2048, .i32⟩
  | 2 => ⟨S1x16x2048, .i32⟩
  | 3 => ⟨S_, .i32⟩
  | 4 => ⟨S1x16x2048, .i32⟩
  | 5 => ⟨S1x16x2048, .i32⟩
  | 6 => ⟨S1x16x2048, .f32⟩
  | 7 => ⟨S_, .f32⟩
  | 8 => ⟨S1x16x2048, .f32⟩
  | 9 => ⟨S1x16x2048, .f32⟩
  | 10 => ⟨S1x16x2048, .f32⟩
  | 11 => ⟨S_, .f32⟩
  | 12 => ⟨S1x16x2048, .f32⟩
  | 13 => ⟨S1x16x2048, .f32⟩
  | 14 => ⟨S_, .f32⟩
  | 15 => ⟨S1x16x2048, .f32⟩
  | 16 => ⟨S1x16x2048, .f32⟩
  | 17 => ⟨S1x16x2048, .i32⟩
  | 18 => ⟨S_, .i32⟩
  | 19 => ⟨S1x16x2048, .i32⟩
  | 20 => ⟨S1x16x2048, .i32⟩
  | 21 => ⟨S_, .i32⟩
  | 22 => ⟨S1x16x2048, .i32⟩
  | 23 => ⟨S1x16x2048, .i32⟩
  | 24 => ⟨S_, .i32⟩
  | 25 => ⟨S1x16x2048, .i32⟩
  | 26 => ⟨S1x16x2048, .i1⟩
  | 27 => ⟨S1x16x2048, .i32⟩
  | 28 => ⟨S1x16x2048, .i32⟩
  | 29 => ⟨S1x16x2048, .i32⟩
  | 30 => ⟨S_, .i32⟩
  | 31 => ⟨S1x16x2048, .i32⟩
  | 32 => ⟨S1x16x2048, .i1⟩
  | 33 => ⟨S_, .i32⟩
  | 34 => ⟨S1x16x2048, .i32⟩
  | 35 => ⟨S1x16x2048, .i32⟩
  | 36 => ⟨S1x16x2048, .i32⟩
  | 37 => ⟨S1x16x2048x1, .i32⟩
  | 38 => ⟨S1x16x2048x8, .f32⟩
  | 39 => ⟨S8x1x16x2048, .f32⟩
  | 40 => ⟨S8x1x16x2048, .f32⟩
  | 41 => ⟨S8x1x16x2048, .f32⟩
  | 42 => ⟨S8x1x1x1, .f32⟩
  | 43 => ⟨S8x1x16x2048, .f32⟩
  | 44 => ⟨S8x2x16x2048, .f32⟩
  | 45 => ⟨S_, .f32⟩
  | 46 => ⟨S8, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S8x1x1, .f32⟩
  | 54 => ⟨S8x1x128, .f32⟩
  | 55 => ⟨S8x1x1, .f32⟩
  | 56 => ⟨S8x1x128, .f32⟩
  | 57 => ⟨S_, .f32⟩
  | 58 => ⟨S8x6x128, .f32⟩
  | 59 => ⟨S8x8x128, .f32⟩
  | 60 => ⟨S16x1024, .bf16⟩
  | 61 => ⟨S128x1, .f32⟩
  | 62 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S4x64, .f32⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S4x144x512, .bf16⟩
  | .local _ .vmem, ⟨6, _⟩ => ⟨S4x144x512, .bf16⟩
  | .local _ .vmem, ⟨7, _⟩ => ⟨S16x128, .bf16⟩
  | .local _ .vmem, ⟨8, _⟩ => ⟨S16x128, .bf16⟩
  | .local _ .vmem, ⟨9, _⟩ => ⟨S144x16, .bf16⟩
  | .local _ .vmem, ⟨10, _⟩ => ⟨S144x16, .bf16⟩
  | .local _ .vmem, ⟨11, _⟩ => ⟨S1x5x512x512, .f32⟩
  | .local _ .vmem, ⟨12, _⟩ => ⟨S1x5x512x512, .f32⟩
  | .local _ .vmem, ⟨13, _⟩ => ⟨S1x2x16x2048, .f32⟩
  | .local _ .vmem, ⟨14, _⟩ => ⟨S1x2x16x2048, .f32⟩
  | .local _ .vmem, ⟨15, _⟩ => ⟨S1x8x128, .f32⟩
  | .local _ .vmem, ⟨16, _⟩ => ⟨S1x8x128, .f32⟩
  | .local _ .vmem, ⟨17, _⟩ => ⟨S128x1, .f32⟩
  | .local _ .vmem, ⟨18, _⟩ => ⟨S2048x128, .bf16⟩
  | .local _ .vmem, ⟨19, _⟩ => ⟨S2048x128, .bf16⟩
  | .local _ .vmem, ⟨20, _⟩ => ⟨S512x4096, .f32⟩
  | .local _ .vmem, ⟨21, _⟩ => ⟨S512x4096, .f32⟩
  | .local _ .vmem, ⟨22, _⟩ => ⟨S1x4096, .f32⟩
  | .local _ .vmem, ⟨23, _⟩ => ⟨S1x4096, .f32⟩
  | .local _ .vmem, ⟨24, _⟩ => ⟨S1x4096, .f32⟩
  | .local _ .vmem, ⟨25, _⟩ => ⟨S144x4096, .f32⟩
  | .local _ .vmem, ⟨26, _⟩ => ⟨S144x4096, .f32⟩
  | .local _ .vmem, ⟨27, _⟩ => ⟨S1x4096, .f32⟩
  | .local _ .smem, ⟨0, _⟩ => ⟨S1, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_c_7 : Ref sig .tc := ⟨.hbm, 67, rfl⟩
abbrev main_call0_v0 : Ref sig .tc := ⟨.hbm, 68, rfl⟩
abbrev main_call0_v1 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_c_20 : Ref sig .tc := ⟨.hbm, 126, rfl⟩
abbrev main_call2_v0 : Ref sig .tc := ⟨.hbm, 127, rfl⟩
abbrev main_call2_v1 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_cst_24 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_25 : Ref sig .tc := ⟨.hbm, 146, rfl⟩
abbrev main_v104 : Ref sig .tc := ⟨.hbm, 147, rfl⟩
abbrev main_v105 : Ref sig .tc := ⟨.hbm, 148, rfl⟩
abbrev main_c_26 : Ref sig .tc := ⟨.hbm, 149, rfl⟩
abbrev main_v106 : Ref sig .tc := ⟨.hbm, 150, rfl⟩
abbrev main_v107 : Ref sig .tc := ⟨.hbm, 151, rfl⟩
abbrev main_c_27 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_28 : Ref sig .tc := ⟨.hbm, 158, rfl⟩
abbrev main_v113 : Ref sig .tc := ⟨.hbm, 159, rfl⟩
abbrev main_v114 : Ref sig .tc := ⟨.hbm, 160, rfl⟩
abbrev main_c_29 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_30 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_31 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_32 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v14 : BitVec 1 := Scalar.cmpi .slt arg0 c64_i32
  let v15 : BitVec 32 := Scalar.extui v14
  let c0_i32_6 : BitVec 32 := 0#32
  let v16 : BitVec 1 := Scalar.cmpi .ne v15 c0_i32_6
  v16

def k0_mult1 (i : grid0.Coords) : BitVec 32 :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c2048_i32 : BitVec 32 := 2048#32
  let v20 : BitVec 32 := Scalar.muli v10 c2048_i32
  v20
def k0_off1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c2048_i32 : BitVec 32 := 2048#32
  let v20 : BitVec 32 := Scalar.muli v10 c2048_i32
  let v21 : BitVec 32 := v20
  let v22 : Index := Scalar.indexCast v21
  let c0 : Index := 0#32
  ![v22.toNat, 0]
def k0_off2 (i : grid0.Coords) : Fin 4 → Nat :=
  let c0_38 : Index := 0#32
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c1_i32_37 : BitVec 32 := 1#32
  let v94 : BitVec 32 := Scalar.minsi v10 c1_i32_37
  let v95 : Index := Scalar.indexCast v94
  let c0_39 : Index := 0#32
  let c0_40 : Index := 0#32
  ![0, v95.toNat, 0, 0]
def k0_off3 (i : grid0.Coords) (c0_i32_59 : BitVec 32) (c0_i32_57 : BitVec 32) : Fin 4 → Nat :=
  let c0_63 : Index := 0#32
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c4_i32 : BitVec 32 := 4#32
  let v128 : BitVec 32 := Scalar.muli v10 c4_i32
  let v129 : BitVec 32 := Scalar.addi v128 c0_i32_57
  let c1_i32_58 : BitVec 32 := 1#32
  let v130 : BitVec 32 := Scalar.muli v129 c1_i32_58
  let v131 : BitVec 32 := Scalar.subi c0_i32_59 v130
  let c_m1_i32 : BitVec 32 := 4294967295#32
  let v132 : BitVec 1 := Scalar.cmpi .slt v131 c_m1_i32
  let c3_i32 : BitVec 32 := 3#32
  let c1_i32_60 : BitVec 32 := 1#32
  let v133 : BitVec 1 := Scalar.cmpi .sgt v131 c1_i32_60
  let c4_i32_62 : BitVec 32 := 4#32
  let c1_i32_61 : BitVec 32 := 1#32
  let v134 : BitVec 32 := Scalar.addi v131 c1_i32_61
  let v135 : BitVec 32 := Scalar.select v133 c4_i32_62 v134
  let v136 : BitVec 32 := Scalar.select v132 c3_i32 v135
  let v137 : Index := Scalar.indexCast v136
  let c0_64 : Index := 0#32
  let c0_65 : Index := 0#32
  ![0, v137.toNat, 0, 0]
def k0_off4 (i : grid0.Coords) (c0_i32_83 : BitVec 32) (c0_i32_81 : BitVec 32) : Fin 4 → Nat :=
  let c0_89 : Index := 0#32
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c4_i32_80 : BitVec 32 := 4#32
  let v162 : BitVec 32 := Scalar.muli v10 c4_i32_80
  let v163 : BitVec 32 := Scalar.addi v162 c0_i32_81
  let c1_i32_82 : BitVec 32 := 1#32
  let v164 : BitVec 32 := Scalar.muli v163 c1_i32_82
  let v165 : BitVec 32 := Scalar.subi c0_i32_83 v164
  let c_m1_i32_84 : BitVec 32 := 4294967295#32
  let v166 : BitVec 1 := Scalar.cmpi .slt v165 c_m1_i32_84
  let c3_i32_88 : BitVec 32 := 3#32
  let c1_i32_85 : BitVec 32 := 1#32
  let v167 : BitVec 1 := Scalar.cmpi .sgt v165 c1_i32_85
  let c4_i32_87 : BitVec 32 := 4#32
  let c1_i32_86 : BitVec 32 := 1#32
  let v168 : BitVec 32 := Scalar.addi v165 c1_i32_86
  let v169 : BitVec 32 := Scalar.select v167 c4_i32_87 v168
  let v170 : BitVec 32 := Scalar.select v166 c3_i32_88 v169
  let v171 : Index := Scalar.indexCast v170
  let c0_90 : Index := 0#32
  let c256_91 : Index := 256#32
  ![0, v171.toNat, 0, 256]
def k0_off5 (i : grid0.Coords) : Fin 4 → Nat :=
  let c0_38 : Index := 0#32
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c1_i32_37 : BitVec 32 := 1#32
  let v94 : BitVec 32 := Scalar.minsi v10 c1_i32_37
  let v95 : Index := Scalar.indexCast v94
  let c0_39 : Index := 0#32
  let c0_40 : Index := 0#32
  ![0, v95.toNat, 0, 0]
def k0_off6 (i : grid0.Coords) (c0_i32_54 : BitVec 32) (c0_i32_52 : BitVec 32) : Fin 4 → Nat :=
  let c0_58 : Index := 0#32
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c4_i32 : BitVec 32 := 4#32
  let v122 : BitVec 32 := Scalar.muli v10 c4_i32
  let v123 : BitVec 32 := Scalar.addi v122 c0_i32_52
  let c1_i32_53 : BitVec 32 := 1#32
  let v124 : BitVec 32 := Scalar.muli v123 c1_i32_53
  let v125 : BitVec 32 := Scalar.subi c0_i32_54 v124
  let c_m1_i32 : BitVec 32 := 4294967295#32
  let v126 : BitVec 1 := Scalar.cmpi .slt v125 c_m1_i32
  let c3_i32 : BitVec 32 := 3#32
  let c1_i32_55 : BitVec 32 := 1#32
  let v127 : BitVec 1 := Scalar.cmpi .sgt v125 c1_i32_55
  let c4_i32_57 : BitVec 32 := 4#32
  let c1_i32_56 : BitVec 32 := 1#32
  let v128 : BitVec 32 := Scalar.addi v125 c1_i32_56
  let v129 : BitVec 32 := Scalar.select v127 c4_i32_57 v128
  let v130 : BitVec 32 := Scalar.select v126 c3_i32 v129
  let v131 : Index := Scalar.indexCast v130
  let c0_59 : Index := 0#32
  let c0_60 : Index := 0#32
  ![0, v131.toNat, 0, 0]
def k0_off7 (i : grid0.Coords) (c0_i32_72 : BitVec 32) (c0_i32_70 : BitVec 32) : Fin 4 → Nat :=
  let c0_78 : Index := 0#32
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  let v1 : BitVec 1 := Scalar.cmpi .eq c1_i32 c0_i32
  let c1_i32_0 : BitVec 32 := 1#32
  let v2 : BitVec 32 := Scalar.select v1 c1_i32_0 c1_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c4_i32_69 : BitVec 32 := 4#32
  let v147 : BitVec 32 := Scalar.muli v10 c4_i32_69
  let v148 : BitVec 32 := Scalar.addi v147 c0_i32_70
  let c1_i32_71 : BitVec 32 := 1#32
  let v149 : BitVec 32 := Scalar.muli v148 c1_i32_71
  let v150 : BitVec 32 := Scalar.subi c0_i32_72 v149
  let c_m1_i32_73 : BitVec 32 := 4294967295#32
  let v151 : BitVec 1 := Scalar.cmpi .slt v150 c_m1_i32_73
  let c3_i32_77 : BitVec 32 := 3#32
  let c1_i32_74 : BitVec 32 := 1#32
  let v152 : BitVec 1 := Scalar.cmpi .sgt v150 c1_i32_74
  let c4_i32_76 : BitVec 32 := 4#32
  let c1_i32_75 : BitVec 32 := 1#32
  let v153 : BitVec 32 := Scalar.addi v150 c1_i32_75
  let v154 : BitVec 32 := Scalar.select v152 c4_i32_76 v153
  let v155 : BitVec 32 := Scalar.select v151 c3_i32_77 v154
  let v156 : Index := Scalar.indexCast v155
  let c0_79 : Index := 0#32
  let c256 : Index := 256#32
  ![0, v156.toNat, 0, 256]
def k0_cond6 (i : grid0.Coords) : BitVec 1 :=
  let arg0 : BitVec 32 := BitVec.ofNat 32 (i 0).val
  let c64_i32_7 : BitVec 32 := 64#32
  let v17 : BitVec 1 := Scalar.cmpi .eq arg0 c64_i32_7
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  ![v44.toNat, v17.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  ![v44.toNat, v17.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  let c0_i32_24 : BitVec 32 := 0#32
  ![v44.toNat, v17.toNat, c0_i32_23.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  let c0_i32_24 : BitVec 32 := 0#32
  ![c0_i32_23.toNat, v17.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  let c0_i32_24 : BitVec 32 := 0#32
  ![v17.toNat, c0_i32_23.toNat]

def cc0_transform_6 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  let c0_i32_24 : BitVec 32 := 0#32
  let c0_i32_25 : BitVec 32 := 0#32
  let c0_i32_26 : BitVec 32 := 0#32
  ![v17.toNat, c0_i32_23.toNat, c0_i32_24.toNat, c0_i32_25.toNat]

def cc0_transform_7 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  let c0_i32_24 : BitVec 32 := 0#32
  let c0_i32_25 : BitVec 32 := 0#32
  let c0_i32_26 : BitVec 32 := 0#32
  ![v17.toNat, c0_i32_23.toNat, c0_i32_24.toNat, c0_i32_25.toNat]

def cc0_transform_8 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v0 c1_i32_4
  let c0_i32_5 : BitVec 32 := 0#32
  let v19 : BitVec 1 := Scalar.cmpi .sgt v0 c0_i32_5
  let v20 : BitVec 32 := Scalar.extui v19
  let c0_i32_6 : BitVec 32 := 0#32
  let v21 : BitVec 1 := Scalar.cmpi .slt v0 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v0 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c8_i32_11 : BitVec 32 := 8#32
  let c0_i32_12 : BitVec 32 := 0#32
  let v35 : BitVec 1 := Scalar.cmpi .eq c8_i32_11 c0_i32_12
  let c1_i32_13 : BitVec 32 := 1#32
  let v36 : BitVec 32 := Scalar.select v35 c1_i32_13 c8_i32_11
  let v37 : BitVec 32 := Scalar.remsi v34 v36
  let c0_i32_14 : BitVec 32 := 0#32
  let v38 : BitVec 1 := Scalar.cmpi .ne v37 c0_i32_14
  let c0_i32_15 : BitVec 32 := 0#32
  let v39 : BitVec 1 := Scalar.cmpi .slt v37 c0_i32_15
  let c0_i32_16 : BitVec 32 := 0#32
  let v40 : BitVec 1 := Scalar.cmpi .slt v36 c0_i32_16
  let v41 : BitVec 1 := Scalar.xori v39 v40
  let v42 : BitVec 1 := Scalar.andi v41 v38
  let v43 : BitVec 32 := Scalar.addi v37 v36
  let v44 : BitVec 32 := Scalar.select v42 v43 v37
  let c1_i32_17 : BitVec 32 := 1#32
  let c0_i32_18 : BitVec 32 := 0#32
  let v45 : BitVec 1 := Scalar.cmpi .eq c1_i32_17 c0_i32_18
  let c1_i32_19 : BitVec 32 := 1#32
  let v46 : BitVec 32 := Scalar.select v45 c1_i32_19 c1_i32_17
  let v47 : BitVec 32 := Scalar.remsi v0 v46
  let c0_i32_20 : BitVec 32 := 0#32
  let v48 : BitVec 1 := Scalar.cmpi .ne v47 c0_i32_20
  let c0_i32_21 : BitVec 32 := 0#32
  let v49 : BitVec 1 := Scalar.cmpi .slt v47 c0_i32_21
  let c0_i32_22 : BitVec 32 := 0#32
  let v50 : BitVec 1 := Scalar.cmpi .slt v46 c0_i32_22
  let v51 : BitVec 1 := Scalar.xori v49 v50
  let v52 : BitVec 1 := Scalar.andi v51 v48
  let v53 : BitVec 32 := Scalar.addi v47 v46
  let v54 : BitVec 32 := Scalar.select v52 v53 v47
  let c0_i32_23 : BitVec 32 := 0#32
  let c0_i32_24 : BitVec 32 := 0#32
  let c0_i32_25 : BitVec 32 := 0#32
  ![v17.toNat, c0_i32_23.toNat, c0_i32_24.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c63_i32 : BitVec 32 := 63#32
  let v2 : BitVec 32 := Scalar.minsi v1 c63_i32
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.divsi v2 c1_i32_6
  let c0_i32_7 : BitVec 32 := 0#32
  let v21 : BitVec 1 := Scalar.cmpi .sgt v2 c0_i32_7
  let v22 : BitVec 32 := Scalar.extui v21
  let c0_i32_8 : BitVec 32 := 0#32
  let v23 : BitVec 1 := Scalar.cmpi .slt v2 c0_i32_8
  let v24 : BitVec 32 := Scalar.extui v23
  let v25 : BitVec 32 := Scalar.subi v22 v24
  let c0_i32_9 : BitVec 32 := 0#32
  let v26 : BitVec 1 := Scalar.cmpi .sgt c1_i32_6 c0_i32_9
  let v27 : BitVec 32 := Scalar.extui v26
  let c0_i32_10 : BitVec 32 := 0#32
  let v28 : BitVec 1 := Scalar.cmpi .slt c1_i32_6 c0_i32_10
  let v29 : BitVec 32 := Scalar.extui v28
  let v30 : BitVec 32 := Scalar.subi v27 v29
  let v31 : BitVec 1 := Scalar.cmpi .ne v25 v30
  let v32 : BitVec 32 := Scalar.remsi v2 c1_i32_6
  let c0_i32_11 : BitVec 32 := 0#32
  let v33 : BitVec 1 := Scalar.cmpi .ne v32 c0_i32_11
  let v34 : BitVec 1 := Scalar.andi v31 v33
  let c1_i32_12 : BitVec 32 := 1#32
  let v35 : BitVec 32 := Scalar.subi v20 c1_i32_12
  let v36 : BitVec 32 := Scalar.select v34 v35 v20
  let c8_i32_13 : BitVec 32 := 8#32
  let c0_i32_14 : BitVec 32 := 0#32
  let v37 : BitVec 1 := Scalar.cmpi .eq c8_i32_13 c0_i32_14
  let c1_i32_15 : BitVec 32 := 1#32
  let v38 : BitVec 32 := Scalar.select v37 c1_i32_15 c8_i32_13
  let v39 : BitVec 32 := Scalar.remsi v36 v38
  let c0_i32_16 : BitVec 32 := 0#32
  let v40 : BitVec 1 := Scalar.cmpi .ne v39 c0_i32_16
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let v44 : BitVec 1 := Scalar.andi v43 v40
  let v45 : BitVec 32 := Scalar.addi v39 v38
  let v46 : BitVec 32 := Scalar.select v44 v45 v39
  let c1_i32_19 : BitVec 32 := 1#32
  let c0_i32_20 : BitVec 32 := 0#32
  let v47 : BitVec 1 := Scalar.cmpi .eq c1_i32_19 c0_i32_20
  let c1_i32_21 : BitVec 32 := 1#32
  let v48 : BitVec 32 := Scalar.select v47 c1_i32_21 c1_i32_19
  let v49 : BitVec 32 := Scalar.remsi v2 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let c1_i32_25 : BitVec 32 := 1#32
  let v57 : BitVec 32 := Scalar.muli v46 c1_i32_25
  let v58 : BitVec 32 := Scalar.addi v57 v56
  let c0_i32_26 : BitVec 32 := 0#32
  ![v58.toNat, v19.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x1024 : Shape := ⟨3, ![8, 2048, 1024]⟩
abbrev S16x1024 : Shape := ⟨2, ![16, 1024]⟩
abbrev S32x8 : Shape := ⟨2, ![32, 8]⟩
abbrev S64 : Shape := ⟨1, ![64]⟩
abbrev S128 : Shape := ⟨1, ![128]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S8x2048x8x2x64 : Shape := ⟨5, ![8, 2048, 8, 2, 64]⟩
abbrev S8x2064x8x2x64 : Shape := ⟨5, ![8, 2064, 8, 2, 64]⟩
abbrev S8x2064x8x128 : Shape := ⟨4, ![8, 2064, 8, 128]⟩
abbrev S_ : Shape := ⟨0, ![]⟩
abbrev S2064 : Shape := ⟨1, ![2064]⟩
abbrev S2048 : Shape := ⟨1, ![2048]⟩
abbrev S1x2064 : Shape := ⟨2, ![1, 2064]⟩
abbrev S2048x1 : Shape := ⟨2, ![2048, 1]⟩
abbrev S2048x2064 : Shape := ⟨2, ![2048, 2064]⟩
abbrev S2048x2064x1 : Shape := ⟨3, ![2048, 2064, 1]⟩
abbrev S2048x2064x8 : Shape := ⟨3, ![2048, 2064, 8]⟩
abbrev S8x2048x2064 : Shape := ⟨3, ![8, 2048, 2064]⟩
abbrev S8x2x8x2048x2064 : Shape := ⟨5, ![8, 2, 8, 2048, 2064]⟩
abbrev S1x1x8x2048x2064 : Shape := ⟨5, ![1, 1, 8, 2048, 2064]⟩
abbrev S8x2x8x2048 : Shape := ⟨4, ![8, 2, 8, 2048]⟩
abbrev S8x2x8x2048x1 : Shape := ⟨5, ![8, 2, 8, 2048, 1]⟩
abbrev S8x1x8x2048x2064 : Shape := ⟨5, ![8, 1, 8, 2048, 2064]⟩
abbrev S8x8x2048x2064 : Shape := ⟨4, ![8, 8, 2048, 2064]⟩
abbrev S8x8x128x2048 : Shape := ⟨4, ![8, 8, 128, 2048]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 138
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x1024, .f32⟩
  | 3 => ⟨S16x1024, .f32⟩
  | 4 => ⟨S16x1024, .f32⟩
  | 5 => ⟨S32x8, .f32⟩
  | 6 => ⟨S64, .f32⟩
  | 7 => ⟨S64, .f32⟩
  | 8 => ⟨S64, .f32⟩
  | 9 => ⟨S64, .f32⟩
  | 10 => ⟨S128, .f32⟩
  | 11 => ⟨S1x16x1024, .f32⟩
  | 12 => ⟨S8x16x1024, .f32⟩
  | 13 => ⟨S8x2064x1024, .f32⟩
  | 14 => ⟨S1x16x1024, .f32⟩
  | 15 => ⟨S8x16x1024, .f32⟩
  | 16 => ⟨S8x2064x1024, .f32⟩
  | 17 => ⟨S8x2048x8x2x64, .f32⟩
  | 18 => ⟨S8x2064x8x2x64, .f32⟩
  | 19 => ⟨S8x2064x8x128, .f32⟩
  | 20 => ⟨S64, .f32⟩
  | 21 => ⟨S_, .f32⟩
  | 22 => ⟨S_, .f32⟩
  | 23 => ⟨S_, .f32⟩
  | 24 => ⟨S64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S2064, .i32⟩
  | 32 => ⟨S2048, .i32⟩
  | 33 => ⟨S_, .i32⟩
  | 34 => ⟨S2048, .i32⟩
  | 35 => ⟨S2048, .i32⟩
  | 36 => ⟨S1x2064, .i32⟩
  | 37 => ⟨S2048x1, .i32⟩
  | 38 => ⟨S2048x2064, .i32⟩
  | 39 => ⟨S2048x2064, .i32⟩
  | 40 => ⟨S2048x2064, .i32⟩
  | 41 => ⟨S_, .i32⟩
  | 42 => ⟨S2048x2064, .i32⟩
  | 43 => ⟨S2048x2064, .i1⟩
  | 44 => ⟨S_, .i32⟩
  | 45 => ⟨S_, .i32⟩
  | 46 => ⟨S2048x2064, .i32⟩
  | 47 => ⟨S2048x2064, .i32⟩
  | 48 => ⟨S2048x2064, .i32⟩
  | 49 => ⟨S2048x2064, .i32⟩
  | 50 => ⟨S_, .i32⟩
  | 51 => ⟨S2048x2064, .i32⟩
  | 52 => ⟨S2048x2064, .i32⟩
  | 53 => ⟨S2048x2064, .f32⟩
  | 54 => ⟨S_, .f32⟩
  | 55 => ⟨S2048x2064, .f32⟩
  | 56 => ⟨S2048x2064, .f32⟩
  | 57 => ⟨S2048x2064, .f32⟩
  | 58 => ⟨S_, .f32⟩
  | 59 => ⟨S2048x2064, .f32⟩
  | 60 => ⟨S2048x2064, .f32⟩
  | 61 => ⟨S_, .f32⟩
  | 62 => ⟨S2048x2064, .f32⟩
  | 63 => ⟨S2048x2064, .f32⟩
  | 64 => ⟨S2048x2064, .i32⟩
  | 65 => ⟨S_, .i32⟩
  | 66 => ⟨S2048x2064, .i32⟩
  | 67 => ⟨S2048x2064, .i32⟩
  | 68 => ⟨S_, .i32⟩
  | 69 => ⟨S2048x2064, .i32⟩
  | 70 => ⟨S2048x2064, .i32⟩
  | 71 => ⟨S_, .i32⟩
  | 72 => ⟨S2048x2064, .i32⟩
  | 73 => ⟨S2048x2064, .i1⟩
  | 74 => ⟨S2048x2064, .i32⟩
  | 75 => ⟨S2048x2064, .i32⟩
  | 76 => ⟨S2048x2064, .i32⟩
  | 77 => ⟨S_, .i32⟩
  | 78 => ⟨S2048x2064, .i32⟩
  | 79 => ⟨S2048x2064, .i1⟩
  | 80 => ⟨S_, .i32⟩
  | 81 => ⟨S2048x2064, .i32⟩
  | 82 => ⟨S2048x2064, .i32⟩
  | 83 => ⟨S2048x2064, .i32⟩
  | 84 => ⟨S2048x2064x1, .i32⟩
  | 85 => ⟨S2048x2064x8, .f32⟩
  | 86 => ⟨S8x2048x2064, .f32⟩
  | 87 => ⟨S8x2x8x2048x2064, .f32⟩
  | 88 => ⟨S_, .f32⟩
  | 89 => ⟨S8x2x8x2048x2064, .f32⟩
  | 90 => ⟨S8x2x8x2048x2064, .f32⟩
  | 91 => ⟨S1x1x8x2048x2064, .f32⟩
  | 92 => ⟨S8x2x8x2048x2064, .f32⟩
  | 93 => ⟨S8x2x8x2048x2064, .f32⟩
  | 94 => ⟨S_, .f32⟩
  | 95 => ⟨S8x2x8x2048, .f32⟩
  | 96 => ⟨S_, .f32⟩
  | 97 => ⟨S8x2x8x2048, .f32⟩
  | 98 => ⟨S8x2x8x2048, .f32⟩
  | 99 => ⟨S8x2x8x2048x1, .f32⟩
  | 100 => ⟨S8x2x8x2048x2064, .f32⟩
  | 101 => ⟨S8x2x8x2048x2064, .f32⟩
  | 102 => ⟨S8x2x8x2048x2064, .f32⟩
  | 103 => ⟨S_, .f32⟩
  | 104 => ⟨S8x2x8x2048, .f32⟩
  | 105 => ⟨S8x2x8x2048x1, .f32⟩
  | 106 => ⟨S8x2x8x2048x2064, .f32⟩
  | 107 => ⟨S8x2x8x2048x2064, .f32⟩
  | 108 => ⟨S8x1x8x2048x2064, .f32⟩
  | 109 => ⟨S8x8x2048x2064, .f32⟩
  | 110 => ⟨S8x1x8x2048x2064, .f32⟩
  | 111 => ⟨S8x8x2048x2064, .f32⟩
  | 112 => ⟨S8x8x2048x2064, .f32⟩
  | 113 => ⟨S8x8x2048x2064, .f32⟩
  | 114 => ⟨S8x8x2048x2064, .f32⟩
  | 115 => ⟨S8x8x128x2048, .f32⟩
  | 116 => ⟨S8x2048x8x128, .f32⟩
  | 117 => ⟨S8x2048x8x128, .f32⟩
  | 118 => ⟨S_, .f32⟩
  | 119 => ⟨S8x2048x8, .f32⟩
  | 120 => ⟨S8x2048x8x1, .f32⟩
  | 121 => ⟨S_, .f32⟩
  | 122 => ⟨S8x2048x8x1, .f32⟩
  | 123 => ⟨S8x2048x8x1, .f32⟩
  | 124 => ⟨S_, .f32⟩
  | 125 => ⟨S8x2048x8x1, .f32⟩
  | 126 => ⟨S8x2048x8x1, .f32⟩
  | 127 => ⟨S8x2048x8x1, .f32⟩
  | _ => ⟨S8x2048x1024, .f32⟩

abbrev hbmTy0_1 (i : Nat) : BufTy := match i % 128 with
  | 0 => ⟨S8x2048x8x128, .f32⟩
  | 1 => ⟨S8x2048x8x128, .f32⟩
  | 2 => ⟨S1x1x1x128, .f32⟩
  | 3 => ⟨S8x2048x8x128, .f32⟩
  | 4 => ⟨S8x2048x8x128, .f32⟩
  | 5 => ⟨S_, .f32⟩
  | 6 => ⟨S8x2048x8x128, .f32⟩
  | 7 => ⟨S8x2048x8x128, .f32⟩
  | 8 => ⟨S16384x1024, .f32⟩
  | 9 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_c_4 : Ref sig .tc := ⟨.hbm, 45, rfl⟩
abbrev main_call0_v0 : Ref sig .tc := ⟨.hbm, 46, rfl⟩
abbrev main_call0_v1 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_cst_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Mix.lean ====
abbrev S16384x1024 : Shape := ⟨2, ![16384, 1024]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S2x1024x1024 : Shape := ⟨3, ![2, 1024, 1024]⟩
abbrev S1x1024 : Shape := ⟨2, ![1, 1024]⟩
abbrev S1024x1024 : Shape := ⟨2, ![1024, 1024]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x1024, .bf16⟩
  | .hbm, ⟨10, _⟩ => ⟨S16384x1024, .bf16⟩
  | .hbm, ⟨11, _⟩ => ⟨S2048x1024, .bf16⟩
  | .hbm, ⟨12, _⟩ => ⟨S2x1024x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2x1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S16384x1024 : Shape := ⟨2, ![16384, 1024]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x5408 : Shape := ⟨2, ![1024, 5408]⟩
abbrev S1x1024 : Shape := ⟨2, ![1, 1024]⟩
abbrev S1024x1024 : Shape := ⟨2, ![1024, 1024]⟩
abbrev S32x1152x512 : Shape := ⟨3, ![32, 1152, 512]⟩
abbrev S16384x1280 : Shape := ⟨2, ![16384, 1280]⟩
abbrev S16384x128 : Shape := ⟨2, ![16384, 128]⟩
abbrev S512x1024 : Shape := ⟨2, ![512, 1024]⟩
abbrev S1x1152x512 : Shape := ⟨3, ![1, 1152, 512]⟩
abbrev S512x1280 : Shape := ⟨2, ![512, 1280]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x32 : Shape := ⟨2, ![1024, 32]⟩
abbrev S512x32 : Shape := ⟨2, ![512, 32]⟩
abbrev S512x96 : Shape := ⟨2, ![512, 96]⟩
abbrev S16x512 : Shape := ⟨2, ![16, 512]⟩
abbrev S256x1024 : Shape := ⟨2, ![256, 1024]⟩
abbrev S256x512 : Shape := ⟨2, ![256, 512]⟩
abbrev S128x512 : Shape := ⟨2, ![128, 512]⟩
abbrev S1x128x512 : Shape := ⟨3, ![1, 128, 512]⟩
abbrev S1x16x512 : Shape := ⟨3, ![1, 16, 512]⟩
abbrev S32x8x144x512 : Shape := ⟨4, ![32, 8, 144, 512]⟩
abbrev S32x8x128x512 : Shape := ⟨4, ![32, 8, 128, 512]⟩
abbrev S32x512x8x128 : Shape := ⟨4, ![32, 512, 8, 128]⟩
abbrev S_ : Shape := ⟨0, ![]⟩
abbrev S16384x32 : Shape := ⟨2, ![16384, 32]⟩

abbrev nBuf : Space → Nat
  | .hbm => 26
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5408, .f32⟩
  | .hbm, ⟨3, _⟩ => ⟨S1024x5408, .bf16⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S16384x1024, .bf16⟩
  | .hbm, ⟨8, _⟩ => ⟨S16384x1024, .bf16⟩
  | .hbm, ⟨9, _⟩ => ⟨S32x1152x512, .bf16⟩
  | .hbm, ⟨10, _⟩ => ⟨S16384x1024, .bf16⟩
  | .hbm, ⟨11, _⟩ => ⟨S16384x1280, .bf16⟩
  | .hbm, ⟨12, _⟩ => ⟨S16384x128, .f32⟩
  | .hbm, ⟨13, _⟩ => ⟨S32x8x144x512, .bf16⟩
  | .hbm, ⟨14, _⟩ => ⟨S32x8x128x512, .bf16⟩
  | .hbm, ⟨15, _⟩ => ⟨S32x512x8x128, .bf16⟩
  | .hbm, ⟨16, _⟩ => ⟨S16384x1024, .bf16⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1280, .f32⟩
  | .hbm, ⟨25, _⟩ => ⟨S16384x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5408, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1152x512, .bf16⟩
  | .local _ .vmem, ⟨10, _⟩ => ⟨S1x1152x512, .bf16⟩
  | .local _ .vmem, ⟨11, _⟩ => ⟨S512x1024, .bf16⟩
  | .local _ .vmem, ⟨12, _⟩ => ⟨S512x1024, .bf16⟩
  | .local _ .vmem, ⟨13, _⟩ => ⟨S512x1280, .bf16⟩
  | .local _ .vmem, ⟨14, _⟩ => ⟨S512x1280, .bf16⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1152x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjReferenceIdeal.lean ====
abbrev S16384x1024 : Shape := ⟨2, ![16384, 1024]⟩
abbrev S1024 : Shape := ⟨1, ![1024]⟩
abbrev S1024x5408 : Shape := ⟨2, ![1024, 5408]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5408 : Shape := ⟨2, ![16384, 5408]⟩
abbrev S16384x1280 : Shape := ⟨2, ![16384, 1280]⟩
abbrev S16384x32 : Shape := ⟨2, ![16384, 32]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5408, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5408, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1280, .f32⟩
  | .hbm, ⟨25, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 6268000 in
/-- The last point only finishes the accumulator. -/
theorem last_run (c : Dev nD) (i : grid0.Coords)
    (arg1 : Memref sig .tc .vmem S4x64 .f32) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S4x144x512 .bf16) (harg4 : arg4.IsWhole)
    (arg5 : Memref sig .tc .vmem S16x128 .bf16) (harg5 : arg5.IsWhole)
    (arg6 : Memref sig .tc .vmem S144x16 .bf16) (harg6 : arg6.IsWhole)
    (arg7 : Memref sig .tc .vmem S1x5x512x512 .f32) (harg7 : arg7.IsWhole)
    (arg8 : Memref sig .tc .vmem S1x2x16x2048 .f32) (harg8 : arg8.IsWhole)
    (arg9 : Memref sig .tc .vmem S1x8x128 .f32) (harg9 : arg9.IsWhole)
    (arg10 : Memref sig .tc .vmem S128x1 .f32) (harg10 : arg10.IsWhole)
    (arg11 : Memref sig .tc .vmem S2048x128 .bf16) (harg11 : arg11.IsWhole)
    (arg12 : Memref sig .tc .vmem S512x4096 .f32) (harg12 : arg12.IsWhole)
    (arg13 : Memref sig .tc .vmem S512x4096 .f32) (harg13 : arg13.IsWhole)
    (arg14 : Memref sig .tc .vmem S1x4096 .f32) (harg14 : arg14.IsWhole)
    (arg15 : Memref sig .tc .vmem S1x4096 .f32) (harg15 : arg15.IsWhole)
    (arg16 : Memref sig .tc .vmem S1x4096 .f32) (harg16 : arg16.IsWhole)
    (arg17 : Memref sig .tc .vmem S144x4096 .f32) (harg17 : arg17.IsWhole)
    (arg18 : Memref sig .tc .vmem S144x4096 .f32) (harg18 : arg18.IsWhole)
    (arg19 : Memref sig .tc .vmem S1x4096 .f32) (harg19 : arg19.IsWhole)
    (arg20 : Memref sig .tc .smem S1 .i32) (harg20 : arg20.IsWhole)
    (h0 : ¬ Scalar.cmpi .ne (Scalar.extui (Scalar.cmpi .eq (BitVec.ofNat 32 (i 0).val) 0#32)) 0#32 = 1#1) (h2 : ¬ k0_cond2 i = 1#1) (h6 : k0_cond6 i = 1#1)
    (x0 : Vec F S4x64 .f32) (x1 : Vec F S2048x128 .bf16) (x2 : Vec F S2048x128 .bf16) (x3 : Vec F S4x144x512 .bf16) (x4 : Vec F S16x128 .bf16) (x5 : Vec F S144x16 .bf16) (x6 : Vec F S1x5x512x512 .f32) (x7 : Vec F S1x2x16x2048 .f32) (x8 : Vec F S1x8x128 .f32) (x9 : Vec F S128x1 .f32) (a : Vec F S144x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare a ∗ (∃ d, owns (c : Thread nD τ) arg19 fullShare d) ∗ (∃ d, owns (c : Thread nD τ) arg20 fullShare d) ∗ (owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ X, ⌜True⌝ ∗ owns (c : Thread nD τ) arg11 fullShare X) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ b, ⌜True⌝ ∗ owns (c : Thread nD τ) arg18 fullShare b) ∗ (∃ d, owns (c : Thread nD τ) arg19 fullShare d) ∗ (∃ d, owns (c : Thread nD τ) arg20 fullShare d) -∗ K ⟨⟩))
      ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diff_attn_eq_skeleton]; unfold cc0_diff_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%d18, %f18, -, H18⟩, ⟨%d19, %f19, -, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg18.eq_unread hf17
  sl_exec (disch := first | sl_exact h0 | sl_exact h2 | sl_exact h6)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr; swap
    · iexists _; isplitr; swap
      · iexact H10
      ipureintro; rfl
    ipureintro
    trivial
  isplitl [H11]
  · iexists _; iexists _; isplitr; swap
    · iexact H11
    ipureintro; rfl
  isplitl [H12]
  · iexists _; iexists _; isplitr; swap
    · iexact H12
    ipureintro; rfl
  isplitl [H13]
  · iexists _; iexists _; isplitr; swap
    · iexact H13
    ipureintro; rfl
  isplitl [H14]
  · iexists _; iexists _; isplitr; swap
    · iexact H14
    ipureintro; rfl
  isplitl [H15]
  · iexists _; iexists _; isplitr; swap
    · iexact H15
    ipureintro; rfl
  isplitl [H16]
  · iexists _; iexists _; isplitr; swap
    · iexact H16
    ipureintro; rfl
  isplitl [H17]
  · iexists _; isplitr; swap
    · iexists _; isplitr; swap
      · iexact H17
      ipureintro; rfl
    ipureintro
    trivial
  isplitl [H18]
  · iexists _; iexists _; isplitr; swap
    · iexact H18
    ipureintro; rfl
  iexists _; iexists _; isplitr; swap
  · iexact H19
  ipureintro; rfl

set_option maxHeartbeats 6268000 in
/-- A point below the last. -/
theorem step_run (c : Dev nD) (i : grid0.Coords)
    (arg1 : Memref sig .tc .vmem S4x64 .f32) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S4x144x512 .bf16) (harg4 : arg4.IsWhole)
    (arg5 : Memref sig .tc .vmem S16x128 .bf16) (harg5 : arg5.IsWhole)
    (arg6 : Memref sig .tc .vmem S144x16 .bf16) (harg6 : arg6.IsWhole)
    (arg7 : Memref sig .tc .vmem S1x5x512x512 .f32) (harg7 : arg7.IsWhole)
    (arg8 : Memref sig .tc .vmem S1x2x16x2048 .f32) (harg8 : arg8.IsWhole)
    (arg9 : Memref sig .tc .vmem S1x8x128 .f32) (harg9 : arg9.IsWhole)
    (arg10 : Memref sig .tc .vmem S128x1 .f32) (harg10 : arg10.IsWhole)
    (arg11 : Memref sig .tc .vmem S2048x128 .bf16) (harg11 : arg11.IsWhole)
    (arg12 : Memref sig .tc .vmem S512x4096 .f32) (harg12 : arg12.IsWhole)
    (arg13 : Memref sig .tc .vmem S512x4096 .f32) (harg13 : arg13.IsWhole)
    (arg14 : Memref sig .tc .vmem S1x4096 .f32) (harg14 : arg14.IsWhole)
    (arg15 : Memref sig .tc .vmem S1x4096 .f32) (harg15 : arg15.IsWhole)
    (arg16 : Memref sig .tc .vmem S1x4096 .f32) (harg16 : arg16.IsWhole)
    (arg17 : Memref sig .tc .vmem S144x4096 .f32) (harg17 : arg17.IsWhole)
    (arg18 : Memref sig .tc .vmem S144x4096 .f32) (harg18 : arg18.IsWhole)
    (arg19 : Memref sig .tc .vmem S1x4096 .f32) (harg19 : arg19.IsWhole)
    (arg20 : Memref sig .tc .smem S1 .i32) (harg20 : arg20.IsWhole)
    (h2 : k0_cond2 i = 1#1) (h6 : ¬ k0_cond6 i = 1#1)
    (x0 : Vec F S4x64 .f32) (x1 : Vec F S2048x128 .bf16) (x2 : Vec F S2048x128 .bf16) (x3 : Vec F S4x144x512 .bf16) (x4 : Vec F S16x128 .bf16) (x5 : Vec F S144x16 .bf16) (x6 : Vec F S1x5x512x512 .f32) (x7 : Vec F S1x2x16x2048 .f32) (x8 : Vec F S1x8x128 .f32) (x9 : Vec F S128x1 .f32) (a : Vec F S144x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare a ∗ (∃ d, owns (c : Thread nD τ) arg19 fullShare d) ∗ (∃ d, owns (c : Thread nD τ) arg20 fullShare d) ∗ (owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ X, ⌜True⌝ ∗ owns (c : Thread nD τ) arg11 fullShare X) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ b, ⌜True⌝ ∗ owns (c : Thread nD τ) arg18 fullShare b) ∗ (∃ d, owns (c : Thread nD τ) arg19 fullShare d) ∗ (∃ d, owns (c : Thread nD τ) arg20 fullShare d) -∗ K ⟨⟩))
      ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diff_attn_eq_skeleton]; unfold cc0_diff_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%d18, %f18, -, H18⟩, ⟨%d19, %f19, -, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg18.eq_unread hf17
  sl_exec (disch := first | sl_exact h2 | sl_exact h6)
  sl_step
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr; swap
    · iexists _; isplitr; swap
      · iexact H10
      ipureintro; rfl
    ipureintro
    trivial
  isplitl [H11]
  · iexists _; iexists _; isplitr; swap
    · iexact H11
    ipureintro; rfl
  isplitl [H12]
  · iexists _; iexists _; isplitr; swap
    · iexact H12
    ipureintro; rfl
  isplitl [H13]
  · iexists _; iexists _; isplitr; swap
    · iexact H13
    ipureintro; rfl
  isplitl [H14]
  · iexists _; iexists _; isplitr; swap
    · iexact H14
    ipureintro; rfl
  isplitl [H15]
  · iexists _; iexists _; isplitr; swap
    · iexact H15
    ipureintro; rfl
  isplitl [H16]
  · iexists _; iexists _; isplitr; swap
    · iexact H16
    ipureintro; rfl
  isplitl [H17]
  · iexists _; isplitr; swap
    · iexists _; isplitr; swap
      · iexact H17
      ipureintro; rfl
    ipureintro
    trivial
  isplitl [H18]
  · iexists _; iexists _; isplitr; swap
    · iexact H18
    ipureintro; rfl
  iexists _; iexists _; isplitr; swap
  · iexact H19
  ipureintro; rfl

end Cert.KernelIdeal.Att
-- ==== Proof.Launch.lean ====
module

public import proofs.«01_k».proof.Proof.Gen.KernelIdeal.Frame
public import proofs.«01_k».proof.Proof.Gen.KernelIdeal.Skeleton
public import proofs.«01_k».proof.Proof.Body

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Nothing is stated of what the accumulator holds between points. -/
def Carried (_m : (ℓ : Loc nD τ sig) → Buf (Elt F) ℓ) (c : Dev nD) (n : ℕ) (a : Vec F S144x4096 .f32) : Prop := True

/-- Nothing is stated of what the body leaves in the output's buffer. -/
def OutRel (_m : (ℓ : Loc nD τ sig) → Buf (Elt F) ℓ) (c : Dev nD) (t : Fin cfg0.N) (X : Vec F S2048x128 .bf16) : Prop := True

variable (m : (ℓ : Loc nD τ sig) → Buf (Elt F) ℓ) (ρ : Dev nD → PrngReg)

/-- Scratch buffer 0. -/
abbrev sc0 : Memref sig .tc .vmem S512x4096 .f32 := Memref.whole cc0_scratch0
/-- Scratch buffer 1. -/
abbrev sc1 : Memref sig .tc .vmem S512x4096 .f32 := Memref.whole cc0_scratch1
/-- Scratch buffer 2. -/
abbrev sc2 : Memref sig .tc .vmem S1x4096 .f32 := Memref.whole cc0_scratch2
/-- Scratch buffer 3. -/
abbrev sc3 : Memref sig .tc .vmem S1x4096 .f32 := Memref.whole cc0_scratch3
/-- Scratch buffer 4. -/
abbrev sc4 : Memref sig .tc .vmem S1x4096 .f32 := Memref.whole cc0_scratch4
/-- Scratch buffer 5. -/
abbrev sc5 : Memref sig .tc .vmem S144x4096 .f32 := Memref.whole cc0_scratch5
/-- Scratch buffer 6. -/
abbrev sc6 : Memref sig .tc .vmem S144x4096 .f32 := Memref.whole cc0_scratch6
/-- Scratch buffer 7. -/
abbrev sc7 : Memref sig .tc .vmem S1x4096 .f32 := Memref.whole cc0_scratch7
/-- Scratch buffer 8. -/
abbrev sc8 : Memref sig .tc .smem S1 .i32 := Memref.whole cc0_scratch8

/-- The invariant before point `n`: at the first what the launch hands over, afterwards the scratch with the carried
    accumulator, and the generator register. -/
def PhiS (c : Dev nD) : ℕ → sProp 𝕄
  | 0 => Pipeline.ΦA spec0 c
  | n + 1 => iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ a, ⌜Carried m c n a⌝ ∗ owns (c : Thread nD τ) sc6 fullShare a) ∗ (∃ d, owns (c : Thread nD τ) sc7 fullShare d) ∗ (∃ d, owns (c : Thread nD τ) sc8 fullShare d)) ∗ (∃ r, prngReg c r))

/-- What the launch hands over, buffer by buffer. -/
theorem launch_scratch (c : Dev nD) :
    (Pipeline.ΦA spec0 c : sProp 𝕄) = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- The invariant before any point, with what is known of the accumulator after a point that is not the first. -/
theorem PhiS_open (c : Dev nD) (n : ℕ) :
    PhiS m c n ⊢ iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ a, ⌜n ≠ 0 → Carried m c (n - 1) a⌝ ∗ owns (c : Thread nD τ) sc6 fullShare a) ∗ (∃ d, owns (c : Thread nD τ) sc7 fullShare d) ∗ (∃ d, owns (c : Thread nD τ) sc8 fullShare d)) ∗ (∃ r, prngReg c r)) := by
  cases n with
  | zero =>
    rw [PhiS, launch_scratch]
    iintro ⟨⟨HS0, HS1, HS2, HS3, HS4, HS5, ⟨%a, HS6⟩, HS7, HS8⟩, Hg⟩
    isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]
      · iexists a; isplitr; swap
        · iexact HS6
        ipureintro; exact fun h => absurd rfl h
      isplitl [HS7]; · iexact HS7
      iexact HS8
    iexact Hg
  | succ n =>
    rw [PhiS]
    iintro ⟨⟨HS0, HS1, HS2, HS3, HS4, HS5, ⟨%a, %ha, HS6⟩, HS7, HS8⟩, Hg⟩
    isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]
      · iexists a; isplitr; swap
        · iexact HS6
        ipureintro; exact fun _ => ha
      isplitl [HS7]; · iexact HS7
      iexact HS8
    iexact Hg

/-- The pipeline's proof data: the arrays as the region finds them, every input block left as found, the output block
    and the carried accumulator as stated above. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun _ X => OutRel m c t X
  Φ t := PhiS m c t.val
  q _ := fullShare
  owed _ := 0

theorem A_eq (c : Dev nD) (w : Fin cfg0.W) : (rdat m c).A w = V m c (Pipeline.arrRef spec0 w) := by
  dsimp only [rdat]

/-- Input window 0 holds its block at every point. -/
theorem finds0 (c : Dev nD) (t : Fin cfg0.N) (Y) (h : (rdat m c).Finds 0 t Y) : Y = iblk m c 0 t := by
  obtain ⟨d, rfl⟩ := Pipeline.RDat.finds_in_eq_fetched (rdat m c) 0 rfl (fun _ _ _ => rfl) (fun _ _ _ h => h) t Y h
  unfold Pipeline.RDat.fetched Pipeline.RDat.blockOf iblk; rw [A_eq]; rfl
/-- Input window 1 holds its block at every point. -/
theorem finds1 (c : Dev nD) (t : Fin cfg0.N) (Y) (h : (rdat m c).Finds 1 t Y) : Y = iblk m c 1 t := by
  obtain ⟨d, rfl⟩ := Pipeline.RDat.finds_in_eq_fetched (rdat m c) 1 rfl (fun _ _ _ => rfl) (fun _ _ _ h => h) t Y h
  unfold Pipeline.RDat.fetched Pipeline.RDat.blockOf iblk; rw [A_eq]; rfl
/-- Input window 2 holds its block at every point. -/
theorem finds2 (c : Dev nD) (t : Fin cfg0.N) (Y) (h : (rdat m c).Finds 2 t Y) : Y = iblk m c 2 t := by
  obtain ⟨d, rfl⟩ := Pipeline.RDat.finds_in_eq_fetched (rdat m c) 2 rfl (fun _ _ _ => rfl) (fun _ _ _ h => h) t Y h
  unfold Pipeline.RDat.fetched Pipeline.RDat.blockOf iblk; rw [A_eq]; rfl
/-- Input window 3 holds its block at every point. -/
theorem finds3 (c : Dev nD) (t : Fin cfg0.N) (Y) (h : (rdat m c).Finds 3 t Y) : Y = iblk m c 3 t := by
  obtain ⟨d, rfl⟩ := Pipeline.RDat.finds_in_eq_fetched (rdat m c) 3 rfl (fun _ _ _ => rfl) (fun _ _ _ h => h) t Y h
  unfold Pipeline.RDat.fetched Pipeline.RDat.blockOf iblk; rw [A_eq]; rfl
/-- Input window 4 holds its block at every point. -/
theorem finds4 (c : Dev nD) (t : Fin cfg0.N) (Y) (h : (rdat m c).Finds 4 t Y) : Y = iblk m c 4 t := by
  obtain ⟨d, rfl⟩ := Pipeline.RDat.finds_in_eq_fetched (rdat m c) 4 rfl (fun _ _ _ => rfl) (fun _ _ _ h => h) t Y h
  unfold Pipeline.RDat.fetched Pipeline.RDat.blockOf iblk; rw [A_eq]; rfl
/-- Input window 5 holds its block at every point. -/
theorem finds5 (c : Dev nD) (t : Fin cfg0.N) (Y) (h : (rdat m c).Finds 5 t Y) : Y = iblk m c 5 t := by
  obtain ⟨d, rfl⟩ := Pipeline.RDat.finds_in_eq_fetched (rdat m c) 5 rfl (fun _ _ _ => rfl) (fun _ _ _ h => h) t Y h
  unfold Pipeline.RDat.fetched Pipeline.RDat.blockOf iblk; rw [A_eq]; rfl
/-- Input window 6 holds its block at every point. -/
theorem finds6 (c : Dev nD) (t : Fin cfg0.N) (Y) (h : (rdat m c).Finds 6 t Y) : Y = iblk m c 6 t := by
  obtain ⟨d, rfl⟩ := Pipeline.RDat.finds_in_eq_fetched (rdat m c) 6 rfl (fun _ _ _ => rfl) (fun _ _ _ h => h) t Y h
  unfold Pipeline.RDat.fetched Pipeline.RDat.blockOf iblk; rw [A_eq]; rfl
/-- Input window 7 holds its block at every point. -/
theorem finds7 (c : Dev nD) (t : Fin cfg0.N) (Y) (h : (rdat m c).Finds 7 t Y) : Y = iblk m c 7 t := by
  obtain ⟨d, rfl⟩ := Pipeline.RDat.finds_in_eq_fetched (rdat m c) 7 rfl (fun _ _ _ => rfl) (fun _ _ _ h => h) t Y h
  unfold Pipeline.RDat.fetched Pipeline.RDat.blockOf iblk; rw [A_eq]; rfl
/-- Input window 8 holds its block at every point. -/
theorem finds8 (c : Dev nD) (t : Fin cfg0.N) (Y) (h : (rdat m c).Finds 8 t Y) : Y = iblk m c 8 t := by
  obtain ⟨d, rfl⟩ := Pipeline.RDat.finds_in_eq_fetched (rdat m c) 8 rfl (fun _ _ _ => rfl) (fun _ _ _ h => h) t Y h
  unfold Pipeline.RDat.fetched Pipeline.RDat.blockOf iblk; rw [A_eq]; rfl
/-- Input window 9 holds its block at every point. -/
theorem finds9 (c : Dev nD) (t : Fin cfg0.N) (Y) (h : (rdat m c).Finds 9 t Y) : Y = iblk m c 9 t := by
  obtain ⟨d, rfl⟩ := Pipeline.RDat.finds_in_eq_fetched (rdat m c) 9 rfl (fun _ _ _ => rfl) (fun _ _ _ h => h) t Y h
  unfold Pipeline.RDat.fetched Pipeline.RDat.blockOf iblk; rw [A_eq]; rfl

/-- The first point, by its condition. -/
theorem cond_first : ∀ t : Fin cfg0.N, (Scalar.cmpi .ne (Scalar.extui (Scalar.cmpi .eq (BitVec.ofNat 32 (grid0.coords t 0).val) 0#32)) 0#32 = 1#1) ↔ t.val = 0 :=
  (by decide +kernel : ∀ t : Fin grid0.N, (Scalar.cmpi .ne (Scalar.extui (Scalar.cmpi .eq (BitVec.ofNat 32 (grid0.coords t 0).val) 0#32)) 0#32 = 1#1) ↔ t.val = 0)
/-- The points that compute, by their condition. -/
theorem cond_work : ∀ t : Fin cfg0.N, k0_cond2 (grid0.coords t) = 1#1 ↔ t.val < 64 :=
  (by decide +kernel : ∀ t : Fin grid0.N, k0_cond2 (grid0.coords t) = 1#1 ↔ t.val < 64)
/-- The last point, by its condition. -/
theorem cond_last : ∀ t : Fin cfg0.N, k0_cond6 (grid0.coords t) = 1#1 ↔ t.val = 64 :=
  (by decide +kernel : ∀ t : Fin grid0.N, k0_cond6 (grid0.coords t) = 1#1 ↔ t.val = 64)

set_option maxHeartbeats 4000000 in
/-- The body at any point, the invariant opened. -/
theorem sound_open (c : Dev nD) (t : Fin cfg0.N) (Y : (w : Fin cfg0.W) → (cfg0.win w).block.Idx → Elt F (cfg0.win w).elt)
    (hY : ∀ w, (rdat m c).Finds w t (Y w)) :
    iprop((((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ a, ⌜t.val ≠ 0 → Carried m c (t.val - 1) a⌝ ∗ owns (c : Thread nD τ) sc6 fullShare a) ∗ (∃ d, owns (c : Thread nD τ) sc7 fullShare d) ∗ (∃ d, owns (c : Thread nD τ) sc8 fullShare d)) ∗ (∃ r, prngReg c r)) ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none c none) Set.univ (bodyAt0 t)
        (fun _ => iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X))) := by
  rw [show (rdat m c).owesAt () t.succ = (rdat m c).owesAt () t.castSucc from rfl]
  rw [show (rdat m c).Φ t.succ = PhiS m c (t.val + 1) from rfl]
  rw [finds0 m c t _ (hY 0), finds1 m c t _ (hY 1), finds2 m c t _ (hY 2), finds3 m c t _ (hY 3), finds4 m c t _ (hY 4), finds5 m c t _ (hY 5), finds6 m c t _ (hY 6), finds7 m c t _ (hY 7), finds8 m c t _ (hY 8), finds9 m c t _ (hY 9)]
  unfold bodyAt0
  rw [PhiS]
  have hN : t.val < 65 := lt_of_lt_of_eq t.isLt (show cfg0.N = 65 from N_0)
  by_cases h : t.val < 64
  · iintro ⟨⟨⟨HS0, HS1, HS2, HS3, HS4, HS5, ⟨%a, %ha, HS6⟩, HS7, HS8⟩, Hg⟩, Ho, H0, H1, H2, H3, H4, H5, H6, H7, H8, H9, H10⟩
    iapply (step_run c (grid0.coords t) _ _ _ _ _ _ _ _ _ _ _ _ _ _ _ _ _ _ _ _ _ _ _ _ _ _ _ _ _ _ _ _ _ _ _ _ _ _ _ _ ((cond_work t).mpr h) (fun h2 => absurd ((cond_last t).mp h2) (by omega)) (iblk m c 0 t) (iblk m c 1 t) (iblk m c 2 t) (iblk m c 3 t) (iblk m c 4 t) (iblk m c 5 t) (iblk m c 6 t) (iblk m c 7 t) (iblk m c 8 t) (iblk m c 9 t) a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, ⟨%X, %hX, H10⟩, HS0, HS1, HS2, HS3, HS4, HS5, ⟨%b, %hb, HS6⟩, HS7, HS8⟩
    isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexists b; isplitr; swap
          · iexact HS6
          ipureintro; trivial
        isplitl [HS7]
        · iexact HS7
        iexact HS8
      iexact Hg
    isplitl [Ho]; · iexact Ho
    isplitl [H0]
    · iexists _; isplitr; swap
      · iexact H0
      ipureintro; rfl
    isplitl [H1]
    · iexists _; isplitr; swap
      · iexact H1
      ipureintro; rfl
    isplitl [H2]
    · iexists _; isplitr; swap
      · iexact H2
      ipureintro; rfl
    isplitl [H3]
    · iexists _; isplitr; swap
      · iexact H3
      ipureintro; rfl
    isplitl [H4]
    · iexists _; isplitr; swap
      · iexact H4
      ipureintro; rfl
    isplitl [H5]
    · iexists _; isplitr; swap
      · iexact H5
      ipureintro; rfl
    isplitl [H6]
    · iexists _; isplitr; swap
      · iexact H6
      ipureintro; rfl
    isplitl [H7]
    · iexists _; isplitr; swap
      · iexact H7
      ipureintro; rfl
    isplitl [H8]
    · iexists _; isplitr; swap
      · iexact H8
      ipureintro; rfl
    isplitl [H9]
    · iexists _; isplitr; swap
      · iexact H9
      ipureintro; rfl
    iexists X; isplitr; swap
    · iexact H10
    ipureintro; trivial
  · iintro ⟨⟨⟨HS0, HS1, HS2, HS3, HS4, HS5, ⟨%a, %ha, HS6⟩, HS7, HS8⟩, Hg⟩, Ho, H0, H1, H2, H3, H4, H5, H6, H7, H8, H9, H10⟩
    iapply (last_run c (grid0.coords t) _ _ _ _ _ _ _ _ _ _ _ _ _ _ _ _ _ _ _ _ _ _ _ _ _ _ _ _ _ _ _ _ _ _ _ _ _ _ _ _ (fun h2 => absurd ((cond_first t).mp h2) (by omega)) (fun h2 => h ((cond_work t).mp h2)) ((cond_last t).mpr (by omega)) (iblk m c 0 t) (iblk m c 1 t) (iblk m c 2 t) (iblk m c 3 t) (iblk m c 4 t) (iblk m c 5 t) (iblk m c 6 t) (iblk m c 7 t) (iblk m c 8 t) (iblk m c 9 t) a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, ⟨%X, %hX, H10⟩, HS0, HS1, HS2, HS3, HS4, HS5, ⟨%b, %hb, HS6⟩, HS7, HS8⟩
    isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexists b; isplitr; swap
          · iexact HS6
          ipureintro; trivial
        isplitl [HS7]
        · iexact HS7
        iexact HS8
      iexact Hg
    isplitl [Ho]; · iexact Ho
    isplitl [H0]
    · iexists _; isplitr; swap
      · iexact H0
      ipureintro; rfl
    isplitl [H1]
    · iexists _; isplitr; swap
      · iexact H1
      ipureintro; rfl
    isplitl [H2]
    · iexists _; isplitr; swap
      · iexact H2
      ipureintro; rfl
    isplitl [H3]
    · iexists _; isplitr; swap
      · iexact H3
      ipureintro; rfl
    isplitl [H4]
    · iexists _; isplitr; swap
      · iexact H4
      ipureintro; rfl
    isplitl [H5]
    · iexists _; isplitr; swap
      · iexact H5
      ipureintro; rfl
    isplitl [H6]
    · iexists _; isplitr; swap
      · iexact H6
      ipureintro; rfl
    isplitl [H7]
    · iexists _; isplitr; swap
      · iexact H7
      ipureintro; rfl
    isplitl [H8]
    · iexists _; isplitr; swap
      · iexact H8
      ipureintro; rfl
    isplitl [H9]
    · iexists _; isplitr; swap
      · iexact H9
      ipureintro; rfl
    iexists X; isplitr; swap
    · iexact H10
    ipureintro; trivial

/-- The body at any point. -/
theorem sound (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none c none) Set.univ (bodyAt0 t)
        (fun _ => iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X))) :=
  (Idealize.SL.BI.sep_mono (PhiS_open m c t.val) (Idealize.SL.BI.Entails.refl _)).trans (sound_open m c t Y hY)

/-- The body table's row at a point's buffers. -/
theorem row (t : Fin cfg0.N) : defs₀ (F := F) .tc cfg0.body (cfg0.bodyArgs t (cfg0.slots t)) = bodyAt0 t := by
  unfold defs₀; rw [Defs.onTc_tc]

/-- The library's body obligation. -/
theorem obligation (c : Dev nD) : (rdat m c).BodyObligation (defs₀ (F := F)) Variants.none () Set.univ := fun t Y hY => by
  rw [bigSep_W0, bigSep_W0, row]
  exact triple_restated (sound m c t Y hY) rfl .rfl fun _ => .rfl

theorem phi_in (c : Dev nD) : Pipeline.ΦA spec0 c ⊢ (rdat m c).Φ 0 := by
  rw [show (rdat m c).Φ 0 = PhiS m c 0 from rfl, PhiS]
  try exact Idealize.SL.BI.Entails.refl _

theorem phi_close (c : Dev nD) (n : ℕ) :
    iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ a, ⌜n ≠ 0 → Carried m c (n - 1) a⌝ ∗ owns (c : Thread nD τ) sc6 fullShare a) ∗ (∃ d, owns (c : Thread nD τ) sc7 fullShare d) ∗ (∃ d, owns (c : Thread nD τ) sc8 fullShare d)) ∗ (∃ r, prngReg c r)) ⊢ (Pipeline.ΦA spec0 c : sProp 𝕄) := by
  rw [launch_scratch]
  iintro ⟨⟨HS0, HS1, HS2, HS3, HS4, HS5, ⟨%a, %ha, HS6⟩, HS7, HS8⟩, Hg⟩
  isplitl [HS0 HS1 HS2 HS3 HS4 HS5 HS6 HS7 HS8]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexists a; iexact HS6
    isplitl [HS7]; · iexact HS7
    iexact HS8
  iexact Hg

theorem phi_out (c : Dev nD) : (rdat m c).Φ (Fin.last cfg0.N) ⊢ Pipeline.ΦA spec0 c :=
  (PhiS_open m c cfg0.N).trans (phi_close m c cfg0.N)

set_option backward.isDefEq.respectTransparency.types false in
/-- The launch: every run ends with the arrays as the proof data allows and every semaphore at zero. -/
theorem run : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => obligation m c) (hshare := fun c => (rdat m c).share_full fun _ => rfl)
    (howed := fun _ _ => rfl) (V := V m) (hmain := hmain m Variants.none) (hA := A_eq m) (hin := phi_in m) (hout := phi_out m)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run m ρ)

end Cert.KernelIdeal.Att
-- ==== Proof.RowMath.lean ====
/- What one row of the layer's feed-forward block is worth over the extended reals: the normalised row, the gated hidden
   row, and the row that leaves the block. The sums that a program takes tile by tile are whole sums here. -/
module

public import Idealize.ShloMosaic.Lib.Pointwise
public import Idealize.ShloMosaic.Lib.ValueIdx

@[expose] public section

noncomputable section

namespace Cert.Layer

open Idealize.ShloMosaic

/-- A row divided by the root of its mean square (with the layer's small constant), times a gain. -/
def normRow (h w : Fin 1024 → EReal) (i : Fin 1024) : EReal :=
  h i * Ideal.rsqrt (Ideal.div (∑ k : Fin 1024, h k * h k) (Ideal.ofBits .f32 0x44800000#32) + Ideal.ofBits .f32 0x358637BD#32) * w i

/-- One gated hidden value from its two products. -/
def gated (g u : EReal) : EReal := g * Ideal.logistic g * u

/-- The hidden row of the feed-forward block at position `f`. -/
def hidden (u : Fin 1024 → EReal) (wg wu : Fin 1024 → Fin 2816 → EReal) (f : Fin 2816) : EReal :=
  gated (∑ i : Fin 1024, u i * wg i f) (∑ i : Fin 1024, u i * wu i f)

/-- The row that leaves the feed-forward block. -/
def ffnRow (h w : Fin 1024 → EReal) (wg wu : Fin 1024 → Fin 2816 → EReal) (wd : Fin 2816 → Fin 1024 → EReal) (d : Fin 1024) : EReal :=
  h d + Ideal.ofBits .f32 0x3F000000#32 * ∑ f : Fin 2816, hidden (normRow h w) wg wu f * wd f d

/-- Equal inputs give equal feed-forward rows. -/
theorem ffnRow_congr {h h' w w' : Fin 1024 → EReal} {wg wg' wu wu' : Fin 1024 → Fin 2816 → EReal} {wd wd' : Fin 2816 → Fin 1024 → EReal}
    (e₀ : h = h') (e₁ : w = w') (e₂ : wg = wg') (e₃ : wu = wu') (e₄ : wd = wd') (d : Fin 1024) :
    ffnRow h w wg wu wd d = ffnRow h' w' wg' wu' wd' d := by
  rw [e₀, e₁, e₂, e₃, e₄]

/-- Position `k` of hidden tile `j`. -/
def tilePos (j : Fin 11) (k : Fin 256) : Fin 2816 := ⟨256 * j.val + k.val, by omega⟩

/-- A sum over the hidden positions, tile by tile. -/
theorem sum_tiles (f : Fin 2816 → EReal) : ∑ i : Fin 2816, f i = ∑ j : Fin 11, ∑ k : Fin 256, f (tilePos j k) := by
  rw [← Fintype.sum_prod_type' (fun j k => f (tilePos j k))]
  refine (Fintype.sum_equiv (finProdFinEquiv (m := 11) (n := 256)) _ _ fun p => ?_).symm
  exact congrArg f (Fin.ext (by simp [tilePos, finProdFinEquiv]; omega))

/-- A sum of eleven, term by term from zero. -/
theorem sum_eleven (g : Fin 11 → EReal) :
    0 + ∑ j : Fin 11, g j = 0 + g 0 + g 1 + g 2 + g 3 + g 4 + g 5 + g 6 + g 7 + g 8 + g 9 + g 10 := by
  simp only [Fin.sum_univ_castSucc, Fin.sum_univ_zero, zero_add]
  rfl

/-- The residual row with the attention's and the state-space mixer's projections added, each by its half of the output weights. -/
def mixRow (h a s : Fin 1024 → EReal) (b c : Fin 1024 → Fin 1024 → EReal) (d : Fin 1024) : EReal :=
  h d + (∑ k : Fin 1024, a k * b k d) + ∑ k : Fin 1024, s k * c k d

/-- The row that leaves the layer: mixed, through the second feed-forward block, normalised at the end. -/
def closeRow (h a s : Fin 1024 → EReal) (b c : Fin 1024 → Fin 1024 → EReal) (w : Fin 1024 → EReal) (wg wu : Fin 1024 → Fin 2816 → EReal)
    (wd : Fin 2816 → Fin 1024 → EReal) (fw : Fin 1024 → EReal) (d : Fin 1024) : EReal :=
  normRow (ffnRow (mixRow h a s b c) w wg wu wd) fw d

/-- Equal inputs give equal closing rows. -/
theorem closeRow_congr {h h' a a' s s' w w' fw fw' : Fin 1024 → EReal} {b b' c c' : Fin 1024 → Fin 1024 → EReal}
    {wg wg' wu wu' : Fin 1024 → Fin 2816 → EReal} {wd wd' : Fin 2816 → Fin 1024 → EReal} (e₀ : h = h') (e₁ : a = a') (e₂ : s = s')
    (e₃ : b = b') (e₄ : c = c') (e₅ : w = w') (e₆ : wg = wg') (e₇ : wu = wu') (e₈ : wd = wd') (e₉ : fw = fw') (d : Fin 1024) :
    closeRow h a s b c w wg wu wd fw d = closeRow h' a' s' b' c' w' wg' wu' wd' fw' d := by
  rw [e₀, e₁, e₂, e₃, e₄, e₅, e₆, e₇, e₈, e₉]

end Cert.Layer

end
-- ==== Proof.FfnTile.lean ====
/- The feed-forward kernel's payloads as rows: one hidden tile, the normalised rows, and the two halves a grid point stores. -/
module

public import proofs.«01_k».proof.Proof.Gen.FfnIdeal.Value
public import proofs.«01_k».proof.Proof.RowMath

@[expose] public section

set_option maxRecDepth 16384

noncomputable section

namespace Cert.FfnIdeal.Rows

open Cert.FfnIdeal Cert.FfnIdeal.Gen Cert.Layer Idealize.ShloMosaic

section Form
variable {F : FTy → Type} [FloatOps F]

/-- One hidden tile added to the running sum. -/
def tile (u : FVec F S512x1024 .bf16) (acc : FVec F S512x1024 .f32) (a b : Vec F S1024x256 .bf16) (c : Vec F S256x1024 .bf16) :
    FVec F S512x1024 .f32 :=
  have g : FVec F S512x256 .f32 := matmul dot_S512x1024_S1024x256_S512x256_1_0_0_1_n_n none u
    (shapeCast S1024x256 a shapeCasts_S1024x256_S1024x256) (constant S512x256 .f32 0x00000000#32)
  have up : FVec F S512x256 .f32 := matmul dot_S512x1024_S1024x256_S512x256_1_0_0_1_n_n none u
    (shapeCast S1024x256 b shapeCasts_S1024x256_S1024x256) (constant S512x256 .f32 0x00000000#32)
  addf acc (matmul dot_S512x256_S256x1024_S512x1024_1_0_0_1_n_n none (truncf .bf16 (mulf (mulf g (logistic g)) up) bitsLt_bf16_f32)
    (shapeCast S256x1024 c shapeCasts_S256x1024_S256x1024) (constant S512x1024 .f32 0x00000000#32))

/-- The eleven hidden tiles, from zero. -/
def tiles (u : FVec F S512x1024 .bf16) (x2 x3 : Vec F S1024x2816 .bf16) (x4 : Vec F S2816x1024 .bf16) : FVec F S512x1024 .f32 :=
  (tile u (tile u (tile u (tile u (tile u (tile u (tile u (tile u (tile u (tile u (tile u (broadcast S512x1024 (Scalar.ofBits .f32 0x00000000#32))
      (View.ld x2 r0_2) (View.ld x3 r0_2) (View.ld x4 r0_3))
      (View.ld x2 r0_4) (View.ld x3 r0_4) (View.ld x4 r0_5))
      (View.ld x2 r0_7) (View.ld x3 r0_7) (View.ld x4 r0_8))
      (View.ld x2 r0_9) (View.ld x3 r0_9) (View.ld x4 r0_10))
      (View.ld x2 r0_11) (View.ld x3 r0_11) (View.ld x4 r0_12))
      (View.ld x2 r0_13) (View.ld x3 r0_13) (View.ld x4 r0_14))
      (View.ld x2 r0_15) (View.ld x3 r0_15) (View.ld x4 r0_16))
      (View.ld x2 r0_17) (View.ld x3 r0_17) (View.ld x4 r0_18))
      (View.ld x2 r0_19) (View.ld x3 r0_19) (View.ld x4 r0_20))
      (View.ld x2 r0_21) (View.ld x3 r0_21) (View.ld x4 r0_22))
      (View.ld x2 r0_23) (View.ld x3 r0_23) (View.ld x4 r0_24))

/-- What one half of a grid point's rows stores. -/
def half (h : Vec F S512x1024 .f32) (w : Vec F S1x1024 .f32) (x2 x3 : Vec F S1024x2816 .bf16) (x4 : Vec F S2816x1024 .bf16) :
    FVec F S512x1024 .f32 :=
  addf h (mulf (broadcast S512x1024 (Scalar.ofBits .f32 0x3F000000#32)) (tiles (k0_pay2 h w) x2 x3 x4))

set_option maxHeartbeats 4000000 in
/-- The output block is its two halves. -/
theorem out_halves (x0 : Vec F S1024x1024 .f32) (x1 : Vec F S1x1024 .f32) (x2 x3 : Vec F S1024x2816 .bf16) (x4 : Vec F S2816x1024 .bf16) :
    out0_5 x0 x1 x2 x3 x4 = View.canon [⟨r0_6, half (View.ld x0 r0_6) (View.ld x1 r0_1) x2 x3 x4⟩,
      ⟨r0_0, half (View.ld x0 r0_0) (View.ld x1 r0_1) x2 x3 x4⟩] := by
  unfold out0_5 k0_pay24 k0_pay25 half tiles tile
  unfold k0_pay1 k0_pay3 k0_pay4 k0_pay5 k0_pay7 k0_pay8 k0_pay9 k0_pay10 k0_pay11 k0_pay12 k0_pay13 k0_pay14 k0_pay15 k0_pay16 k0_pay17 k0_pay18 k0_pay19 k0_pay20 k0_pay21 k0_pay22 k0_pay23
  rfl

end Form

/-- A tile at an index: the running sum plus the tile's gated products. -/
theorem tile_apply (u : FVec Ideal S512x1024 .bf16) (acc : FVec Ideal S512x1024 .f32) (a b : Vec Ideal S1024x256 .bf16)
    (c : Vec Ideal S256x1024 .bf16) (r : Fin 512) (d : Fin 1024) :
    tile u acc a b c (ix2 r d) = acc (ix2 r d) + ∑ k : Fin 256,
      gated (∑ i : Fin 1024, u (ix2 r i) * a (ix2 i k)) (∑ i : Fin 1024, u (ix2 r i) * b (ix2 i k)) * c (ix2 k d) := by
  unfold tile
  pointwise
  rfl

/-- The normalised rows at an index. -/
theorem unit_apply (h : Vec Ideal S512x1024 .f32) (w : Vec Ideal S1x1024 .f32) (r : Fin 512) (i : Fin 1024) :
    k0_pay2 h w (ix2 r i) = normRow (fun k => h (ix2 r k)) (fun k => w (ix2 0 k)) i := by
  unfold k0_pay2
  pointwise
  rfl

/-- One hidden tile of a row, the operands read from the whole weights. -/
def tileSum (u : Fin 1024 → EReal) (x2 x3 : Vec Ideal S1024x2816 .bf16) (x4 : Vec Ideal S2816x1024 .bf16) (d : Fin 1024) (j : Fin 11) : EReal :=
  ∑ k : Fin 256, hidden u (fun i f => x2 (ix2 i f)) (fun i f => x3 (ix2 i f)) (tilePos j k) * x4 (ix2 (tilePos j k) d)

/-! The weight tiles the body loads are the whole weights at the tile positions. -/

theorem ldc2 (x : Vec Ideal S1024x2816 .bf16) (i : Fin 1024) (k : Fin 256) : View.ld x r0_2 (ix2 i k) = x (ix2 i (tilePos 0 k)) := by
  unfold r0_2
  pointwise
  exact congrArg (fun q => x (ix2 i q)) (Fin.ext (by simp [tilePos]))
theorem ldr3 (x : Vec Ideal S2816x1024 .bf16) (k : Fin 256) (d : Fin 1024) : View.ld x r0_3 (ix2 k d) = x (ix2 (tilePos 0 k) d) := by
  unfold r0_3
  pointwise
  exact congrArg (fun q => x (ix2 q d)) (Fin.ext (by simp [tilePos]))
theorem ldc4 (x : Vec Ideal S1024x2816 .bf16) (i : Fin 1024) (k : Fin 256) : View.ld x r0_4 (ix2 i k) = x (ix2 i (tilePos 1 k)) := by
  unfold r0_4
  pointwise
  exact congrArg (fun q => x (ix2 i q)) (Fin.ext (by simp [tilePos]))
theorem ldr5 (x : Vec Ideal S2816x1024 .bf16) (k : Fin 256) (d : Fin 1024) : View.ld x r0_5 (ix2 k d) = x (ix2 (tilePos 1 k) d) := by
  unfold r0_5
  pointwise
  exact congrArg (fun q => x (ix2 q d)) (Fin.ext (by simp [tilePos]))
theorem ldc7 (x : Vec Ideal S1024x2816 .bf16) (i : Fin 1024) (k : Fin 256) : View.ld x r0_7 (ix2 i k) = x (ix2 i (tilePos 2 k)) := by
  unfold r0_7
  pointwise
  exact congrArg (fun q => x (ix2 i q)) (Fin.ext (by simp [tilePos]))
theorem ldr8 (x : Vec Ideal S2816x1024 .bf16) (k : Fin 256) (d : Fin 1024) : View.ld x r0_8 (ix2 k d) = x (ix2 (tilePos 2 k) d) := by
  unfold r0_8
  pointwise
  exact congrArg (fun q => x (ix2 q d)) (Fin.ext (by simp [tilePos]))
theorem ldc9 (x : Vec Ideal S1024x2816 .bf16) (i : Fin 1024) (k : Fin 256) : View.ld x r0_9 (ix2 i k) = x (ix2 i (tilePos 3 k)) := by
  unfold r0_9
  pointwise
  exact congrArg (fun q => x (ix2 i q)) (Fin.ext (by simp [tilePos]))
theorem ldr10 (x : Vec Ideal S2816x1024 .bf16) (k : Fin 256) (d : Fin 1024) : View.ld x r0_10 (ix2 k d) = x (ix2 (tilePos 3 k) d) := by
  unfold r0_10
  pointwise
  exact congrArg (fun q => x (ix2 q d)) (Fin.ext (by simp [tilePos]))
theorem ldc11 (x : Vec Ideal S1024x2816 .bf16) (i : Fin 1024) (k : Fin 256) : View.ld x r0_11 (ix2 i k) = x (ix2 i (tilePos 4 k)) := by
  unfold r0_11
  pointwise
  exact congrArg (fun q => x (ix2 i q)) (Fin.ext (by simp [tilePos]))
theorem ldr12 (x : Vec Ideal S2816x1024 .bf16) (k : Fin 256) (d : Fin 1024) : View.ld x r0_12 (ix2 k d) = x (ix2 (tilePos 4 k) d) := by
  unfold r0_12
  pointwise
  exact congrArg (fun q => x (ix2 q d)) (Fin.ext (by simp [tilePos]))
theorem ldc13 (x : Vec Ideal S1024x2816 .bf16) (i : Fin 1024) (k : Fin 256) : View.ld x r0_13 (ix2 i k) = x (ix2 i (tilePos 5 k)) := by
  unfold r0_13
  pointwise
  exact congrArg (fun q => x (ix2 i q)) (Fin.ext (by simp [tilePos]))
theorem ldr14 (x : Vec Ideal S2816x1024 .bf16) (k : Fin 256) (d : Fin 1024) : View.ld x r0_14 (ix2 k d) = x (ix2 (tilePos 5 k) d) := by
  unfold r0_14
  pointwise
  exact congrArg (fun q => x (ix2 q d)) (Fin.ext (by simp [tilePos]))
theorem ldc15 (x : Vec Ideal S1024x2816 .bf16) (i : Fin 1024) (k : Fin 256) : View.ld x r0_15 (ix2 i k) = x (ix2 i (tilePos 6 k)) := by
  unfold r0_15
  pointwise
  exact congrArg (fun q => x (ix2 i q)) (Fin.ext (by simp [tilePos]))
theorem ldr16 (x : Vec Ideal S2816x1024 .bf16) (k : Fin 256) (d : Fin 1024) : View.ld x r0_16 (ix2 k d) = x (ix2 (tilePos 6 k) d) := by
  unfold r0_16
  pointwise
  exact congrArg (fun q => x (ix2 q d)) (Fin.ext (by simp [tilePos]))
theorem ldc17 (x : Vec Ideal S1024x2816 .bf16) (i : Fin 1024) (k : Fin 256) : View.ld x r0_17 (ix2 i k) = x (ix2 i (tilePos 7 k)) := by
  unfold r0_17
  pointwise
  exact congrArg (fun q => x (ix2 i q)) (Fin.ext (by simp [tilePos]))
theorem ldr18 (x : Vec Ideal S2816x1024 .bf16) (k : Fin 256) (d : Fin 1024) : View.ld x r0_18 (ix2 k d) = x (ix2 (tilePos 7 k) d) := by
  unfold r0_18
  pointwise
  exact congrArg (fun q => x (ix2 q d)) (Fin.ext (by simp [tilePos]))
theorem ldc19 (x : Vec Ideal S1024x2816 .bf16) (i : Fin 1024) (k : Fin 256) : View.ld x r0_19 (ix2 i k) = x (ix2 i (tilePos 8 k)) := by
  unfold r0_19
  pointwise
  exact congrArg (fun q => x (ix2 i q)) (Fin.ext (by simp [tilePos]))
theorem ldr20 (x : Vec Ideal S2816x1024 .bf16) (k : Fin 256) (d : Fin 1024) : View.ld x r0_20 (ix2 k d) = x (ix2 (tilePos 8 k) d) := by
  unfold r0_20
  pointwise
  exact congrArg (fun q => x (ix2 q d)) (Fin.ext (by simp [tilePos]))
theorem ldc21 (x : Vec Ideal S1024x2816 .bf16) (i : Fin 1024) (k : Fin 256) : View.ld x r0_21 (ix2 i k) = x (ix2 i (tilePos 9 k)) := by
  unfold r0_21
  pointwise
  exact congrArg (fun q => x (ix2 i q)) (Fin.ext (by simp [tilePos]))
theorem ldr22 (x : Vec Ideal S2816x1024 .bf16) (k : Fin 256) (d : Fin 1024) : View.ld x r0_22 (ix2 k d) = x (ix2 (tilePos 9 k) d) := by
  unfold r0_22
  pointwise
  exact congrArg (fun q => x (ix2 q d)) (Fin.ext (by simp [tilePos]))
theorem ldc23 (x : Vec Ideal S1024x2816 .bf16) (i : Fin 1024) (k : Fin 256) : View.ld x r0_23 (ix2 i k) = x (ix2 i (tilePos 10 k)) := by
  unfold r0_23
  pointwise
  exact congrArg (fun q => x (ix2 i q)) (Fin.ext (by simp [tilePos]))
theorem ldr24 (x : Vec Ideal S2816x1024 .bf16) (k : Fin 256) (d : Fin 1024) : View.ld x r0_24 (ix2 k d) = x (ix2 (tilePos 10 k) d) := by
  unfold r0_24
  pointwise
  exact congrArg (fun q => x (ix2 q d)) (Fin.ext (by simp [tilePos]))

/-- The eleven tiles of a row are the whole hidden sum. -/
theorem tiles_apply (u : FVec Ideal S512x1024 .bf16) (x2 x3 : Vec Ideal S1024x2816 .bf16) (x4 : Vec Ideal S2816x1024 .bf16)
    (r : Fin 512) (d : Fin 1024) :
    tiles u x2 x3 x4 (ix2 r d) = ∑ f : Fin 2816, hidden (fun i => u (ix2 r i)) (fun i f => x2 (ix2 i f)) (fun i f => x3 (ix2 i f)) f * x4 (ix2 f d) := by
  have key : tiles u x2 x3 x4 (ix2 r d) = 0 + ∑ j : Fin 11, tileSum (fun i => u (ix2 r i)) x2 x3 x4 d j := by
    rw [sum_eleven]
    unfold tiles
    simp only [tile_apply, ldc2, ldr3, ldc4, ldr5, ldc7, ldr8, ldc9, ldr10, ldc11, ldr12, ldc13, ldr14, ldc15, ldr16, ldc17, ldr18, ldc19, ldr20, ldc21, ldr22, ldc23, ldr24]
    pointwise
    rfl
  rw [key, zero_add, sum_tiles]
  rfl

end Cert.FfnIdeal.Rows

end
-- ==== Proof.FfnOut.lean ====
/- The feed-forward kernel's result array: every row is the feed-forward row of the argument's row. -/
module

public import proofs.«01_k».proof.Proof.FfnTile
public import Idealize.ShloMosaic.Lib.Pipeline.ValueKit
public import Idealize.ShloMosaic.Lib.Pipeline.CanonAppend

@[expose] public section

set_option maxRecDepth 16384

noncomputable section

namespace Cert.FfnIdeal.Rows

open Cert.FfnIdeal Cert.FfnIdeal.Gen Cert.Layer Idealize.ShloMosaic Idealize.ShloMosaic.TcCoe Idealize.SL.Sem
open Idealize.ShloMosaic.Pipeline (Dat)

/-- A stored half at an index is the feed-forward row. -/
theorem half_apply (h : Vec Ideal S512x1024 .f32) (w : Vec Ideal S1x1024 .f32) (x2 x3 : Vec Ideal S1024x2816 .bf16)
    (x4 : Vec Ideal S2816x1024 .bf16) (r : Fin 512) (d : Fin 1024) :
    half h w x2 x3 x4 (ix2 r d) = ffnRow (fun k => h (ix2 r k)) (fun k => w (ix2 0 k)) (fun i f => x2 (ix2 i f))
      (fun i f => x3 (ix2 i f)) (fun f d => x4 (ix2 f d)) d := by
  have e : half h w x2 x3 x4 (ix2 r d) = h (ix2 r d) + Ideal.ofBits .f32 0x3F000000#32 * tiles (k0_pay2 h w) x2 x3 x4 (ix2 r d) := rfl
  rw [e, tiles_apply]
  simp only [unit_apply]
  rfl

/-- The feed-forward rows of a block or of an array of `n` rows. -/
def rowsOf {n : Nat} (x0 : (⟨2, ![n, 1024]⟩ : Shape).Idx → EReal) (x1 : (⟨2, ![1, 1024]⟩ : Shape).Idx → EReal)
    (x2 x3 : (⟨2, ![1024, 2816]⟩ : Shape).Idx → EReal) (x4 : (⟨2, ![2816, 1024]⟩ : Shape).Idx → EReal) :
    (⟨2, ![n, 1024]⟩ : Shape).Idx → EReal := fun y =>
  ffnRow (fun k => x0 (ix2 (y 0) k)) (fun k => x1 (ix2 0 k)) (fun i f => x2 (ix2 i f)) (fun i f => x3 (ix2 i f)) (fun f d => x4 (ix2 f d)) (y 1)

/-- The output block is the feed-forward rows of the input block. -/
theorem out_rows (x0 : Vec Ideal S1024x1024 .f32) (x1 : Vec Ideal S1x1024 .f32) (x2 x3 : Vec Ideal S1024x2816 .bf16)
    (x4 : Vec Ideal S2816x1024 .bf16) : out0_5 x0 x1 x2 x3 x4 = rowsOf x0 x1 x2 x3 x4 := by
  rw [out_halves]
  funext y
  have h := View.canon_append_of_pieces (Val := Elt Ideal) (e := .f32) (rowsOf x0 x1 x2 x3 x4) [] [⟨r0_6, half (View.ld x0 r0_6) (View.ld x1 r0_1) x2 x3 x4⟩,
      ⟨r0_0, half (View.ld x0 r0_0) (View.ld x1 r0_1) x2 x3 x4⟩] ?_ y (cover0_5 _ _ y)
  · rwa [List.append_nil] at h
  · intro p hp x
    simp only [List.mem_cons, List.not_mem_nil, or_false] at hp
    rcases hp with rfl | rfl
    · obtain ⟨r, d, rfl⟩ : ∃ (r : Fin 512) (d : Fin 1024), x = ix2 r d := ⟨x 0, x 1, eq_ix2 x⟩
      refine (half_apply _ _ _ _ _ r d).trans ?_
      unfold rowsOf r0_6 r0_1
      pointwise
      exact congrArg₂ (fun i j => ffnRow (fun k => x0 (ix2 i k)) (fun k => x1 (ix2 0 k)) (fun i f => x2 (ix2 i f)) (fun i f => x3 (ix2 i f))
        (fun f d => x4 (ix2 f d)) j) (Fin.ext (by blk_simp)) (Fin.ext (by blk_simp))
    · obtain ⟨r, d, rfl⟩ : ∃ (r : Fin 512) (d : Fin 1024), x = ix2 r d := ⟨x 0, x 1, eq_ix2 x⟩
      refine (half_apply _ _ _ _ _ r d).trans ?_
      unfold rowsOf r0_0 r0_1
      pointwise
      exact congrArg₂ (fun i j => ffnRow (fun k => x0 (ix2 i k)) (fun k => x1 (ix2 0 k)) (fun i f => x2 (ix2 i f)) (fun i f => x3 (ix2 i f))
        (fun f d => x4 (ix2 f d)) j) (Fin.ext (by blk_simp)) (Fin.ext (by blk_simp))

variable (m : (ℓ : Loc nD τ sig) → Buf (Elt Ideal) ℓ) (ρ : Dev nD → PrngReg)

/-- The normalisation's weights as the kernel finds them: one row. -/
theorem v0_apply (c : Dev nD) (k : Fin 1024) : V m c main_v0 (ix2 0 k) = m ((c : Thread nD τ).loc main_arg1) (ix1 k) := by
  entry_read
  pointwise

/-- The gate weights as the kernel finds them. -/
theorem v1_apply (c : Dev nD) (i : Fin 1024) (f : Fin 2816) : V m c main_v1 (ix2 i f) = m ((c : Thread nD τ).loc main_arg2) (ix2 i f) := by
  entry_read
  pointwise

/-- The second weights as the kernel finds them. -/
theorem v2_apply (c : Dev nD) (i : Fin 1024) (f : Fin 2816) : V m c main_v2 (ix2 i f) = m ((c : Thread nD τ).loc main_arg3) (ix2 i f) := by
  entry_read
  pointwise

/-- The output weights as the kernel finds them. -/
theorem v3_apply (c : Dev nD) (f : Fin 2816) (d : Fin 1024) : V m c main_v3 (ix2 f d) = m ((c : Thread nD τ).loc main_arg4) (ix2 f d) := by
  entry_read
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- After the run the result array holds the feed-forward rows of the whole argument. -/
theorem final (c : Dev nD) : (dats m 0 c).arrAt 5 cfg0.N
    = rowsOf (V m c main_arg0) (V m c main_v0) (V m c main_v1) (V m c main_v2) (V m c main_v3) := by
  refine (dats m 0 c).arrAt_eq_of_covers 5 _ (by decide +kernel) fun t hf y => ?_
  blk_simp
  rw [after0_5, out_rows]
  unfold rowsOf
  blk_simp [iblk, idx0, idx1, idx2, idx3, idx4, idx5]
  have h0 : ∀ k : Fin 1024, (win0_0.blk t).view.emb (ix2 (y 0) k) = ix2 ((win0_5.blk t).view.emb y 0) k := fun k => by blk_ext [idx0, idx5]
  have h1 : ∀ k : Fin 1024, (win0_1.blk t).view.emb (ix2 0 k) = ix2 0 k := fun k => by blk_ext [idx1]
  have h2 : ∀ (i : Fin 1024) (f : Fin 2816), (win0_2.blk t).view.emb (ix2 i f) = ix2 i f := fun i f => by blk_ext [idx2]
  have h3 : ∀ (i : Fin 1024) (f : Fin 2816), (win0_3.blk t).view.emb (ix2 i f) = ix2 i f := fun i f => by blk_ext [idx3]
  have h4 : ∀ (f : Fin 2816) (d : Fin 1024), (win0_4.blk t).view.emb (ix2 f d) = ix2 f d := fun f d => by blk_ext [idx4]
  have h5 : (win0_5.blk t).view.emb y 1 = y 1 := Fin.ext (by blk_simp [idx5])
  simp only [h0, h1, h2, h3, h4]
  exact congrArg (ffnRow _ _ _ _ _) h5.symm

/-- The same over the arguments themselves. -/
def rows (c : Dev nD) : (⟨2, ![16384, 1024]⟩ : Shape).Idx → EReal := fun y =>
  ffnRow (fun k => m ((c : Thread nD τ).loc main_arg0) (ix2 (y 0) k)) (fun k => m ((c : Thread nD τ).loc main_arg1) (ix1 k))
    (fun i f => m ((c : Thread nD τ).loc main_arg2) (ix2 i f)) (fun i f => m ((c : Thread nD τ).loc main_arg3) (ix2 i f))
    (fun f d => m ((c : Thread nD τ).loc main_arg4) (ix2 f d)) (y 1)

/-- After the run the result array holds the feed-forward rows of the arguments. -/
theorem final_rows (c : Dev nD) : (dats m 0 c).arrAt 5 cfg0.N = rows m c := by
  rw [final]
  funext y
  exact ffnRow_congr (funext fun k => congrFun (V_main_arg0 m c) _) (funext (v0_apply m c)) (funext fun i => funext (v1_apply m c i))
    (funext fun i => funext (v2_apply m c i)) (funext fun f => funext (v3_apply m c f)) (y 1)

end Cert.FfnIdeal.Rows

end
-- ==== Proof.FfnRef.lean ====
/- The plain feed-forward reference computes the feed-forward row of each row, and the kernel agrees with it. -/
module

public import proofs.«01_k».proof.Proof.FfnOut
public import proofs.«01_k».proof.Proof.Gen.FfnIdeal.Value
public import proofs.«01_k».proof.Proof.Gen.FfnReferenceIdeal.Run
public import proofs.«01_k».proof.Proof.Gen.FfnReferenceIdeal.Read
public import proofs.«01_k».proof.Defs

@[expose] public section

set_option maxRecDepth 16384

noncomputable section

namespace Cert.FfnReferenceIdeal.Rows

open Cert.FfnReferenceIdeal Cert.FfnReferenceIdeal.Read Cert.Layer Idealize.ShloMosaic Idealize.ShloMosaic.TcCoe Idealize.SL.Sem

variable (x0 : (⟨S16384x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal))

/-- The reference's normalised row. -/
theorem norm_apply (r : Fin 16384) (i : Fin 1024) :
    val_main_v12 (F := Ideal) x0 x1 (ix2 r i) = normRow (fun k => x0 (ix2 r k)) (fun k => x1 (ix1 k)) i := by
  unfold normRow
  unfold val_main_v12 val_main_v11 val_main_v10 val_main_v9 val_main_v8 val_main_v7 val_main_v6 val_main_v5 val_main_v4 val_main_v3 val_main_v2 val_main_v1 val_main_v0
  unfold val_main_cst val_main_cst_0 val_main_cst_1
  pointwise

/-- The reference's gate product at a position. -/
theorem gate_apply (r : Fin 16384) (f : Fin 2816) :
    val_main_v13 (F := Ideal) x0 x1 x2 (ix2 r f) = ∑ i, normRow (fun k => x0 (ix2 r k)) (fun k => x1 (ix1 k)) i * x2 (ix2 i f) := by
  simp only [← norm_apply]
  unfold val_main_v13
  generalize val_main_v12 (F := Ideal) x0 x1 = u
  pointwise

/-- The reference's second product at a position. -/
theorem up_apply (r : Fin 16384) (f : Fin 2816) :
    val_main_v15 (F := Ideal) x0 x1 x3 (ix2 r f) = ∑ i, normRow (fun k => x0 (ix2 r k)) (fun k => x1 (ix1 k)) i * x3 (ix2 i f) := by
  simp only [← norm_apply]
  unfold val_main_v15
  generalize val_main_v12 (F := Ideal) x0 x1 = u
  pointwise

/-- The reference's gated unit. -/
theorem hidden_apply (r : Fin 16384) (f : Fin 2816) :
    val_main_v16 (F := Ideal) x0 x1 x2 x3 (ix2 r f) = Layer.hidden (normRow (fun k => x0 (ix2 r k)) (fun k => x1 (ix1 k)))
      (fun i f => x2 (ix2 i f)) (fun i f => x3 (ix2 i f)) f := by
  unfold Layer.hidden gated
  simp only [← gate_apply x0 x1 x2, ← up_apply x0 x1 x3]
  unfold val_main_v16 val_main_v14 val_main_call0_v5 val_main_call0_v4 val_main_call0_v3 val_main_call0_v2 val_main_call0_v1 val_main_call0_v0 val_main_call0_cst val_main_call0_cst_0
  generalize val_main_v13 (F := Ideal) x0 x1 x2 = g
  generalize val_main_v15 (F := Ideal) x0 x1 x3 = u
  pointwise
  rfl

/-- The reference's result is the feed-forward row of each row. -/
theorem result_apply (r : Fin 16384) (d : Fin 1024) :
    val_main_v20 (F := Ideal) x0 x1 x2 x3 x4 (ix2 r d) = ffnRow (fun k => x0 (ix2 r k)) (fun k => x1 (ix1 k))
      (fun i f => x2 (ix2 i f)) (fun i f => x3 (ix2 i f)) (fun f d => x4 (ix2 f d)) d := by
  unfold ffnRow
  simp only [← hidden_apply]
  unfold val_main_v20 val_main_v19 val_main_v18 val_main_v17 val_main_cst_2
  generalize val_main_v16 (F := Ideal) x0 x1 x2 x3 = u
  pointwise

end Cert.FfnReferenceIdeal.Rows

namespace Cert

open Idealize.ShloMosaic Idealize.ShloMosaic.TcCoe Idealize.SL.Sem Cert.Layer

/-- The feed-forward kernel computes the plain feed-forward block. -/
theorem ffn_algebraic : algebraic_FfnIdeal_FfnReferenceIdeal (hFfnIdeal := FfnIdeal.Gen.facts) (hFfnReferenceIdeal := FfnReferenceIdeal.Gen.facts) := by
  intro m g m' g' _ hagree
  refine ⟨fun c => FfnIdeal.Rows.rows m c,
    (θ_run _ _ _).mono (fun r h c => ⟨(h c).1.trans (FfnIdeal.Rows.final_rows m c), (h c).2⟩) (FfnIdeal.Value.run_blocks m g),
    (θ_run _ _ _).mono (fun r h c => ⟨?_, (h c).2⟩) (FfnReferenceIdeal.Value.run m' g')⟩
  refine (h c).1.trans ((FfnReferenceIdeal.Read.val_main_v20_eq _ _ _ _ _).trans ?_)
  obtain ⟨e0, e1, e2, e3, e4⟩ := hagree c
  rw [e0, e1, e2, e3, e4]
  funext y
  obtain ⟨r, d, rfl⟩ : ∃ (r : Fin 16384) (d : Fin 1024), y = ix2 r d := ⟨y 0, y 1, eq_ix2 y⟩
  exact FfnReferenceIdeal.Rows.result_apply _ _ _ _ _ r d

end Cert

end
-- ==== Proof.MixTile.lean ====
/- The closing kernel's payloads as rows: the mixed rows, one hidden tile, the normalised rows, and the two halves a grid point stores. -/
module

public import proofs.«01_k».proof.Proof.Gen.MixIdeal.Value
public import proofs.«01_k».proof.Proof.RowMath

@[expose] public section

set_option maxRecDepth 16384

noncomputable section

namespace Cert.MixIdeal.Rows

open Cert.MixIdeal Cert.MixIdeal.Gen Cert.Layer Idealize.ShloMosaic

section Form
variable {F : FTy → Type} [FloatOps F]

/-- One hidden tile added to the running sum. -/
def tile (u : FVec F S512x1024 .bf16) (acc : FVec F S512x1024 .f32) (a b : Vec F S1024x256 .bf16) (c : Vec F S256x1024 .bf16) :
    FVec F S512x1024 .f32 :=
  have g : FVec F S512x256 .f32 := matmul dot_S512x1024_S1024x256_S512x256_1_0_0_1_n_n none u
    (shapeCast S1024x256 a shapeCasts_S1024x256_S1024x256) (constant S512x256 .f32 0x00000000#32)
  have up : FVec F S512x256 .f32 := matmul dot_S512x1024_S1024x256_S512x256_1_0_0_1_n_n none u
    (shapeCast S1024x256 b shapeCasts_S1024x256_S1024x256) (constant S512x256 .f32 0x00000000#32)
  addf acc (matmul dot_S512x256_S256x1024_S512x1024_1_0_0_1_n_n none (truncf .bf16 (mulf (mulf g (logistic g)) up) bitsLt_bf16_f32)
    (shapeCast S256x1024 c shapeCasts_S256x1024_S256x1024) (constant S512x1024 .f32 0x00000000#32))

/-- The eleven hidden tiles, from zero. -/
def tiles (u : FVec F S512x1024 .bf16) (x2 x3 : Vec F S1024x2816 .bf16) (x4 : Vec F S2816x1024 .bf16) : FVec F S512x1024 .f32 :=
  (tile u (tile u (tile u (tile u (tile u (tile u (tile u (tile u (tile u (tile u (tile u (broadcast S512x1024 (Scalar.ofBits .f32 0x00000000#32))
      (View.ld x2 r0_4) (View.ld x3 r0_4) (View.ld x4 r0_5))
      (View.ld x2 r0_6) (View.ld x3 r0_6) (View.ld x4 r0_7))
      (View.ld x2 r0_9) (View.ld x3 r0_9) (View.ld x4 r0_10))
      (View.ld x2 r0_11) (View.ld x3 r0_11) (View.ld x4 r0_12))
      (View.ld x2 r0_13) (View.ld x3 r0_13) (View.ld x4 r0_14))
      (View.ld x2 r0_15) (View.ld x3 r0_15) (View.ld x4 r0_16))
      (View.ld x2 r0_17) (View.ld x3 r0_17) (View.ld x4 r0_18))
      (View.ld x2 r0_19) (View.ld x3 r0_19) (View.ld x4 r0_20))
      (View.ld x2 r0_21) (View.ld x3 r0_21) (View.ld x4 r0_22))
      (View.ld x2 r0_23) (View.ld x3 r0_23) (View.ld x4 r0_24))
      (View.ld x2 r0_25) (View.ld x3 r0_25) (View.ld x4 r0_26))

/-- The residual rows with the attention's and the state-space mixer's projected outputs added. -/
def mixed (h : Vec F S512x1024 .f32) (a s : Vec F S512x1024 .bf16) (b c : Vec F S1x1024x1024 .bf16) : FVec F S512x1024 .f32 :=
  addf (addf h (matmul dot_S512x1024_S1024x1024_S512x1024_1_0_0_1_n_n none (shapeCast S512x1024 a shapeCasts_S512x1024_S512x1024)
      (shapeCast S1024x1024 b shapeCasts_S1x1024x1024_S1024x1024) (constant S512x1024 .f32 0x00000000#32)))
    (matmul dot_S512x1024_S1024x1024_S512x1024_1_0_0_1_n_n none (shapeCast S512x1024 s shapeCasts_S512x1024_S512x1024)
      (shapeCast S1024x1024 c shapeCasts_S1x1024x1024_S1024x1024) (constant S512x1024 .f32 0x00000000#32))

/-- Rows normalised by their root mean square and scaled. -/
def normed (x : FVec F S512x1024 .f32) (w : Vec F S1x1024 .f32) : FVec F S512x1024 .f32 :=
  have ms : FVec F S512x1 .f32 := divf (shapeCast S512x1 (multiReduction .add [1] S512 (mulf x x) 0x00000000#32 reduces_S512x1024_S512 (.inl rfl) rfl)
    shapeCasts_S512_S512x1) (broadcast S512x1 (Scalar.ofBits .f32 0x44800000#32))
  mulf (mulf x (broadcastTo S512x1024 (rsqrt (addf ms (broadcast S512x1 (Scalar.ofBits .f32 0x358637BD#32)))) broadcasts_S512x1_S512x1024))
    (broadcastTo S512x1024 (shapeCast S1x1024 w shapeCasts_S1x1024_S1x1024) broadcasts_S1x1024_S512x1024)

/-- The rows entering the final normalisation, from the mixed rows. -/
def block (x : FVec F S512x1024 .f32) (w : Vec F S1x1024 .f32) (x5 x6 : Vec F S1024x2816 .bf16) (x7 : Vec F S2816x1024 .bf16) :
    FVec F S512x1024 .f32 :=
  addf x (mulf (broadcast S512x1024 (Scalar.ofBits .f32 0x3F000000#32)) (tiles (truncf .bf16 (normed x w) bitsLt_bf16_f32) x5 x6 x7))

/-- What one half of a grid point's rows stores. -/
def half (h : Vec F S512x1024 .f32) (a s : Vec F S512x1024 .bf16) (x3 : Vec F S2x1024x1024 .bf16) (w : Vec F S1x1024 .f32)
    (x5 x6 : Vec F S1024x2816 .bf16) (x7 : Vec F S2816x1024 .bf16) (fw : Vec F S1x1024 .f32) : FVec F S512x1024 .f32 :=
  normed (block (mixed h a s (View.ld x3 r0_1) (View.ld x3 r0_2)) w x5 x6 x7) fw

set_option maxHeartbeats 4000000 in
/-- The output block is its two halves. -/
theorem out_halves (x0 : Vec F S1024x1024 .f32) (x1 x2 : Vec F S1024x1024 .bf16) (x3 : Vec F S2x1024x1024 .bf16) (x4 : Vec F S1x1024 .f32)
    (x5 x6 : Vec F S1024x2816 .bf16) (x7 : Vec F S2816x1024 .bf16) (x8 : Vec F S1x1024 .f32) :
    out0_9 x0 x1 x2 x3 x4 x5 x6 x7 x8
      = View.canon [⟨r0_8, half (View.ld x0 r0_8) (View.ld x1 r0_8) (View.ld x2 r0_8) x3 (View.ld x4 r0_3) x5 x6 x7 (View.ld x8 r0_3)⟩,
          ⟨r0_0, half (View.ld x0 r0_0) (View.ld x1 r0_0) (View.ld x2 r0_0) x3 (View.ld x4 r0_3) x5 x6 x7 (View.ld x8 r0_3)⟩] := by
  unfold out0_9 half block normed mixed tiles tile
  unfold k0_pay44 k0_pay43 k0_pay42 k0_pay41 k0_pay40 k0_pay39 k0_pay38 k0_pay37 k0_pay36 k0_pay35 k0_pay34 k0_pay33 k0_pay32 k0_pay31 k0_pay30 k0_pay29 k0_pay28 k0_pay27 k0_pay26 k0_pay25 k0_pay24 k0_pay23 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay4 k0_pay3 k0_pay2 k0_pay1
  rfl

end Form

/-- A tile at an index: the running sum plus the tile's gated products. -/
theorem tile_apply (u : FVec Ideal S512x1024 .bf16) (acc : FVec Ideal S512x1024 .f32) (a b : Vec Ideal S1024x256 .bf16)
    (c : Vec Ideal S256x1024 .bf16) (r : Fin 512) (d : Fin 1024) :
    tile u acc a b c (ix2 r d) = acc (ix2 r d) + ∑ k : Fin 256,
      gated (∑ i : Fin 1024, u (ix2 r i) * a (ix2 i k)) (∑ i : Fin 1024, u (ix2 r i) * b (ix2 i k)) * c (ix2 k d) := by
  unfold tile
  pointwise
  rfl

/-- The normalised rows at an index. -/
theorem normed_apply (x : FVec Ideal S512x1024 .f32) (w : Vec Ideal S1x1024 .f32) (r : Fin 512) (i : Fin 1024) :
    normed x w (ix2 r i) = normRow (fun k => x (ix2 r k)) (fun k => w (ix2 0 k)) i := by
  unfold normed
  pointwise
  rfl

/-- The mixed rows at an index. -/
theorem mixed_apply (h : Vec Ideal S512x1024 .f32) (a s : Vec Ideal S512x1024 .bf16) (b c : Vec Ideal S1x1024x1024 .bf16) (r : Fin 512) (i : Fin 1024) :
    mixed h a s b c (ix2 r i) = h (ix2 r i) + (∑ k : Fin 1024, a (ix2 r k) * b (ix3 0 k i)) + ∑ k : Fin 1024, s (ix2 r k) * c (ix3 0 k i) := by
  unfold mixed
  pointwise

/-- One hidden tile of a row, the operands read from the whole weights. -/
def tileSum (u : Fin 1024 → EReal) (x2 x3 : Vec Ideal S1024x2816 .bf16) (x4 : Vec Ideal S2816x1024 .bf16) (d : Fin 1024) (j : Fin 11) : EReal :=
  ∑ k : Fin 256, hidden u (fun i f => x2 (ix2 i f)) (fun i f => x3 (ix2 i f)) (tilePos j k) * x4 (ix2 (tilePos j k) d)

/-! The weight tiles the body loads are the whole weights at the tile positions. -/

theorem ldc4 (x : Vec Ideal S1024x2816 .bf16) (i : Fin 1024) (k : Fin 256) : View.ld x r0_4 (ix2 i k) = x (ix2 i (tilePos 0 k)) := by
  unfold r0_4
  pointwise
  exact congrArg (fun q => x (ix2 i q)) (Fin.ext (by simp [tilePos]))
theorem ldr5 (x : Vec Ideal S2816x1024 .bf16) (k : Fin 256) (d : Fin 1024) : View.ld x r0_5 (ix2 k d) = x (ix2 (tilePos 0 k) d) := by
  unfold r0_5
  pointwise
  exact congrArg (fun q => x (ix2 q d)) (Fin.ext (by simp [tilePos]))
theorem ldc6 (x : Vec Ideal S1024x2816 .bf16) (i : Fin 1024) (k : Fin 256) : View.ld x r0_6 (ix2 i k) = x (ix2 i (tilePos 1 k)) := by
  unfold r0_6
  pointwise
  exact congrArg (fun q => x (ix2 i q)) (Fin.ext (by simp [tilePos]))
theorem ldr7 (x : Vec Ideal S2816x1024 .bf16) (k : Fin 256) (d : Fin 1024) : View.ld x r0_7 (ix2 k d) = x (ix2 (tilePos 1 k) d) := by
  unfold r0_7
  pointwise
  exact congrArg (fun q => x (ix2 q d)) (Fin.ext (by simp [tilePos]))
theorem ldc9 (x : Vec Ideal S1024x2816 .bf16) (i : Fin 1024) (k : Fin 256) : View.ld x r0_9 (ix2 i k) = x (ix2 i (tilePos 2 k)) := by
  unfold r0_9
  pointwise
  exact congrArg (fun q => x (ix2 i q)) (Fin.ext (by simp [tilePos]))
theorem ldr10 (x : Vec Ideal S2816x1024 .bf16) (k : Fin 256) (d : Fin 1024) : View.ld x r0_10 (ix2 k d) = x (ix2 (tilePos 2 k) d) := by
  unfold r0_10
  pointwise
  exact congrArg (fun q => x (ix2 q d)) (Fin.ext (by simp [tilePos]))
theorem ldc11 (x : Vec Ideal S1024x2816 .bf16) (i : Fin 1024) (k : Fin 256) : View.ld x r0_11 (ix2 i k) = x (ix2 i (tilePos 3 k)) := by
  unfold r0_11
  pointwise
  exact congrArg (fun q => x (ix2 i q)) (Fin.ext (by simp [tilePos]))
theorem ldr12 (x : Vec Ideal S2816x1024 .bf16) (k : Fin 256) (d : Fin 1024) : View.ld x r0_12 (ix2 k d) = x (ix2 (tilePos 3 k) d) := by
  unfold r0_12
  pointwise
  exact congrArg (fun q => x (ix2 q d)) (Fin.ext (by simp [tilePos]))
theorem ldc13 (x : Vec Ideal S1024x2816 .bf16) (i : Fin 1024) (k : Fin 256) : View.ld x r0_13 (ix2 i k) = x (ix2 i (tilePos 4 k)) := by
  unfold r0_13
  pointwise
  exact congrArg (fun q => x (ix2 i q)) (Fin.ext (by simp [tilePos]))
theorem ldr14 (x : Vec Ideal S2816x1024 .bf16) (k : Fin 256) (d : Fin 1024) : View.ld x r0_14 (ix2 k d) = x (ix2 (tilePos 4 k) d) := by
  unfold r0_14
  pointwise
  exact congrArg (fun q => x (ix2 q d)) (Fin.ext (by simp [tilePos]))
theorem ldc15 (x : Vec Ideal S1024x2816 .bf16) (i : Fin 1024) (k : Fin 256) : View.ld x r0_15 (ix2 i k) = x (ix2 i (tilePos 5 k)) := by
  unfold r0_15
  pointwise
  exact congrArg (fun q => x (ix2 i q)) (Fin.ext (by simp [tilePos]))
theorem ldr16 (x : Vec Ideal S2816x1024 .bf16) (k : Fin 256) (d : Fin 1024) : View.ld x r0_16 (ix2 k d) = x (ix2 (tilePos 5 k) d) := by
  unfold r0_16
  pointwise
  exact congrArg (fun q => x (ix2 q d)) (Fin.ext (by simp [tilePos]))
theorem ldc17 (x : Vec Ideal S1024x2816 .bf16) (i : Fin 1024) (k : Fin 256) : View.ld x r0_17 (ix2 i k) = x (ix2 i (tilePos 6 k)) := by
  unfold r0_17
  pointwise
  exact congrArg (fun q => x (ix2 i q)) (Fin.ext (by simp [tilePos]))
theorem ldr18 (x : Vec Ideal S2816x1024 .bf16) (k : Fin 256) (d : Fin 1024) : View.ld x r0_18 (ix2 k d) = x (ix2 (tilePos 6 k) d) := by
  unfold r0_18
  pointwise
  exact congrArg (fun q => x (ix2 q d)) (Fin.ext (by simp [tilePos]))
theorem ldc19 (x : Vec Ideal S1024x2816 .bf16) (i : Fin 1024) (k : Fin 256) : View.ld x r0_19 (ix2 i k) = x (ix2 i (tilePos 7 k)) := by
  unfold r0_19
  pointwise
  exact congrArg (fun q => x (ix2 i q)) (Fin.ext (by simp [tilePos]))
theorem ldr20 (x : Vec Ideal S2816x1024 .bf16) (k : Fin 256) (d : Fin 1024) : View.ld x r0_20 (ix2 k d) = x (ix2 (tilePos 7 k) d) := by
  unfold r0_20
  pointwise
  exact congrArg (fun q => x (ix2 q d)) (Fin.ext (by simp [tilePos]))
theorem ldc21 (x : Vec Ideal S1024x2816 .bf16) (i : Fin 1024) (k : Fin 256) : View.ld x r0_21 (ix2 i k) = x (ix2 i (tilePos 8 k)) := by
  unfold r0_21
  pointwise
  exact congrArg (fun q => x (ix2 i q)) (Fin.ext (by simp [tilePos]))
theorem ldr22 (x : Vec Ideal S2816x1024 .bf16) (k : Fin 256) (d : Fin 1024) : View.ld x r0_22 (ix2 k d) = x (ix2 (tilePos 8 k) d) := by
  unfold r0_22
  pointwise
  exact congrArg (fun q => x (ix2 q d)) (Fin.ext (by simp [tilePos]))
theorem ldc23 (x : Vec Ideal S1024x2816 .bf16) (i : Fin 1024) (k : Fin 256) : View.ld x r0_23 (ix2 i k) = x (ix2 i (tilePos 9 k)) := by
  unfold r0_23
  pointwise
  exact congrArg (fun q => x (ix2 i q)) (Fin.ext (by simp [tilePos]))
theorem ldr24 (x : Vec Ideal S2816x1024 .bf16) (k : Fin 256) (d : Fin 1024) : View.ld x r0_24 (ix2 k d) = x (ix2 (tilePos 9 k) d) := by
  unfold r0_24
  pointwise
  exact congrArg (fun q => x (ix2 q d)) (Fin.ext (by simp [tilePos]))
theorem ldc25 (x : Vec Ideal S1024x2816 .bf16) (i : Fin 1024) (k : Fin 256) : View.ld x r0_25 (ix2 i k) = x (ix2 i (tilePos 10 k)) := by
  unfold r0_25
  pointwise
  exact congrArg (fun q => x (ix2 i q)) (Fin.ext (by simp [tilePos]))
theorem ldr26 (x : Vec Ideal S2816x1024 .bf16) (k : Fin 256) (d : Fin 1024) : View.ld x r0_26 (ix2 k d) = x (ix2 (tilePos 10 k) d) := by
  unfold r0_26
  pointwise
  exact congrArg (fun q => x (ix2 q d)) (Fin.ext (by simp [tilePos]))

/-- The eleven tiles of a row are the whole hidden sum. -/
theorem tiles_apply (u : FVec Ideal S512x1024 .bf16) (x2 x3 : Vec Ideal S1024x2816 .bf16) (x4 : Vec Ideal S2816x1024 .bf16)
    (r : Fin 512) (d : Fin 1024) :
    tiles u x2 x3 x4 (ix2 r d) = ∑ f : Fin 2816, hidden (fun i => u (ix2 r i)) (fun i f => x2 (ix2 i f)) (fun i f => x3 (ix2 i f)) f * x4 (ix2 f d) := by
  have key : tiles u x2 x3 x4 (ix2 r d) = 0 + ∑ j : Fin 11, tileSum (fun i => u (ix2 r i)) x2 x3 x4 d j := by
    rw [sum_eleven]
    unfold tiles
    simp only [tile_apply, ldc4, ldr5, ldc6, ldr7, ldc9, ldr10, ldc11, ldr12, ldc13, ldr14, ldc15, ldr16, ldc17, ldr18, ldc19, ldr20, ldc21, ldr22, ldc23, ldr24, ldc25, ldr26]
    pointwise
    rfl
  rw [key, zero_add, sum_tiles]
  rfl

end Cert.MixIdeal.Rows

end
-- ==== Proof.MixOut.lean ====
/- The closing kernel's result array: every row is the closing row of the arguments' rows. -/
module

public import proofs.«01_k».proof.Proof.MixTile
public import Idealize.ShloMosaic.Lib.Pipeline.ValueKit
public import Idealize.ShloMosaic.Lib.Pipeline.CanonAppend

@[expose] public section

set_option maxRecDepth 16384

noncomputable section

namespace Cert.MixIdeal.Rows

open Cert.MixIdeal Cert.MixIdeal.Gen Cert.Layer Idealize.ShloMosaic Idealize.ShloMosaic.TcCoe Idealize.SL.Sem
open Idealize.ShloMosaic.Pipeline (Dat)

/-- The first half of the output weights as the body loads it. -/
theorem ld_first (x : Vec Ideal S2x1024x1024 .bf16) (k d : Fin 1024) : (View.ld x r0_1 : Vec Ideal S1x1024x1024 .bf16) (ix3 0 k d) = x (ix3 0 k d) := by
  unfold r0_1
  pointwise

/-- The second half of the output weights as the body loads it. -/
theorem ld_second (x : Vec Ideal S2x1024x1024 .bf16) (k d : Fin 1024) : (View.ld x r0_2 : Vec Ideal S1x1024x1024 .bf16) (ix3 0 k d) = x (ix3 1 k d) := by
  unfold r0_2
  pointwise

/-- The rows entering the final normalisation at an index. -/
theorem block_apply (x : FVec Ideal S512x1024 .f32) (w : Vec Ideal S1x1024 .f32) (x5 x6 : Vec Ideal S1024x2816 .bf16)
    (x7 : Vec Ideal S2816x1024 .bf16) (r : Fin 512) (d : Fin 1024) :
    block x w x5 x6 x7 (ix2 r d) = ffnRow (fun k => x (ix2 r k)) (fun k => w (ix2 0 k)) (fun i f => x5 (ix2 i f))
      (fun i f => x6 (ix2 i f)) (fun f d => x7 (ix2 f d)) d := by
  have e : block x w x5 x6 x7 (ix2 r d) = x (ix2 r d) + Ideal.ofBits .f32 0x3F000000#32
      * tiles (truncf .bf16 (normed x w) bitsLt_bf16_f32) x5 x6 x7 (ix2 r d) := rfl
  have n : ∀ i : Fin 1024, truncf .bf16 (normed x w) bitsLt_bf16_f32 (ix2 r i) = normRow (fun k => x (ix2 r k)) (fun k => w (ix2 0 k)) i :=
    normed_apply x w r
  rw [e, tiles_apply]
  simp only [n]
  rfl

/-- A stored half at an index is the closing row. -/
theorem half_apply (h : Vec Ideal S512x1024 .f32) (a s : Vec Ideal S512x1024 .bf16) (x3 : Vec Ideal S2x1024x1024 .bf16) (w : Vec Ideal S1x1024 .f32)
    (x5 x6 : Vec Ideal S1024x2816 .bf16) (x7 : Vec Ideal S2816x1024 .bf16) (fw : Vec Ideal S1x1024 .f32) (r : Fin 512) (d : Fin 1024) :
    half h a s x3 w x5 x6 x7 fw (ix2 r d) = closeRow (fun k => h (ix2 r k)) (fun k => a (ix2 r k)) (fun k => s (ix2 r k))
      (fun k d => x3 (ix3 0 k d)) (fun k d => x3 (ix3 1 k d)) (fun k => w (ix2 0 k)) (fun i f => x5 (ix2 i f)) (fun i f => x6 (ix2 i f))
      (fun f d => x7 (ix2 f d)) (fun k => fw (ix2 0 k)) d := by
  unfold half
  rw [normed_apply]
  simp only [block_apply, mixed_apply]
  exact closeRow_congr (h := fun k => h (ix2 r k)) (a := fun k => a (ix2 r k)) (s := fun k => s (ix2 r k))
    (b := fun k d => (View.ld x3 r0_1 : Vec Ideal S1x1024x1024 .bf16) (ix3 0 k d)) (c := fun k d => (View.ld x3 r0_2 : Vec Ideal S1x1024x1024 .bf16) (ix3 0 k d))
    rfl rfl rfl (funext fun k => funext (ld_first x3 k)) (funext fun k => funext (ld_second x3 k)) rfl rfl rfl rfl rfl d

/-- The closing rows of a block or of an array of `n` rows. -/
def rowsOf {n : Nat} (x0 x1 x2 : (⟨2, ![n, 1024]⟩ : Shape).Idx → EReal) (x3 : (⟨3, ![2, 1024, 1024]⟩ : Shape).Idx → EReal)
    (x4 : (⟨2, ![1, 1024]⟩ : Shape).Idx → EReal) (x5 x6 : (⟨2, ![1024, 2816]⟩ : Shape).Idx → EReal)
    (x7 : (⟨2, ![2816, 1024]⟩ : Shape).Idx → EReal) (x8 : (⟨2, ![1, 1024]⟩ : Shape).Idx → EReal) :
    (⟨2, ![n, 1024]⟩ : Shape).Idx → EReal := fun y =>
  closeRow (fun k => x0 (ix2 (y 0) k)) (fun k => x1 (ix2 (y 0) k)) (fun k => x2 (ix2 (y 0) k)) (fun k d => x3 (ix3 0 k d))
    (fun k d => x3 (ix3 1 k d)) (fun k => x4 (ix2 0 k)) (fun i f => x5 (ix2 i f)) (fun i f => x6 (ix2 i f)) (fun f d => x7 (ix2 f d))
    (fun k => x8 (ix2 0 k)) (y 1)

/-- The output block is the closing rows of the input blocks. -/
theorem out_rows (x0 : Vec Ideal S1024x1024 .f32) (x1 x2 : Vec Ideal S1024x1024 .bf16) (x3 : Vec Ideal S2x1024x1024 .bf16) (x4 : Vec Ideal S1x1024 .f32)
    (x5 x6 : Vec Ideal S1024x2816 .bf16) (x7 : Vec Ideal S2816x1024 .bf16) (x8 : Vec Ideal S1x1024 .f32) :
    out0_9 x0 x1 x2 x3 x4 x5 x6 x7 x8 = rowsOf x0 x1 x2 x3 x4 x5 x6 x7 x8 := by
  rw [out_halves]
  funext y
  have h := View.canon_append_of_pieces (Val := Elt Ideal) (e := .f32) (rowsOf x0 x1 x2 x3 x4 x5 x6 x7 x8) [] [⟨r0_8, half (View.ld x0 r0_8)
      (View.ld x1 r0_8) (View.ld x2 r0_8) x3 (View.ld x4 r0_3) x5 x6 x7 (View.ld x8 r0_3)⟩,
    ⟨r0_0, half (View.ld x0 r0_0) (View.ld x1 r0_0) (View.ld x2 r0_0) x3 (View.ld x4 r0_3) x5 x6 x7 (View.ld x8 r0_3)⟩] ?_ y (cover0_9 _ _ y)
  · rwa [List.append_nil] at h
  · intro p hp x
    simp only [List.mem_cons, List.not_mem_nil, or_false] at hp
    rcases hp with rfl | rfl
    · obtain ⟨r, d, rfl⟩ : ∃ (r : Fin 512) (d : Fin 1024), x = ix2 r d := ⟨x 0, x 1, eq_ix2 x⟩
      refine (half_apply _ _ _ _ _ _ _ _ _ r d).trans ?_
      unfold rowsOf r0_8 r0_3
      pointwise
      exact congrArg₂ (fun i j => closeRow (fun k => x0 (ix2 i k)) (fun k => x1 (ix2 i k)) (fun k => x2 (ix2 i k)) (fun k d => x3 (ix3 0 k d))
        (fun k d => x3 (ix3 1 k d)) (fun k => x4 (ix2 0 k)) (fun i f => x5 (ix2 i f)) (fun i f => x6 (ix2 i f)) (fun f d => x7 (ix2 f d))
        (fun k => x8 (ix2 0 k)) j) (Fin.ext (by blk_simp)) (Fin.ext (by blk_simp))
    · obtain ⟨r, d, rfl⟩ : ∃ (r : Fin 512) (d : Fin 1024), x = ix2 r d := ⟨x 0, x 1, eq_ix2 x⟩
      refine (half_apply _ _ _ _ _ _ _ _ _ r d).trans ?_
      unfold rowsOf r0_0 r0_3
      pointwise
      exact congrArg₂ (fun i j => closeRow (fun k => x0 (ix2 i k)) (fun k => x1 (ix2 i k)) (fun k => x2 (ix2 i k)) (fun k d => x3 (ix3 0 k d))
        (fun k d => x3 (ix3 1 k d)) (fun k => x4 (ix2 0 k)) (fun i f => x5 (ix2 i f)) (fun i f => x6 (ix2 i f)) (fun f d => x7 (ix2 f d))
        (fun k => x8 (ix2 0 k)) j) (Fin.ext (by blk_simp)) (Fin.ext (by blk_simp))

variable (m : (ℓ : Loc nD τ sig) → Buf (Elt Ideal) ℓ) (ρ : Dev nD → PrngReg)

/-- The attention's rows as the kernel finds them. -/
theorem v0_apply (c : Dev nD) (r : Fin 16384) (k : Fin 1024) : V m c main_v0 (ix2 r k) = m ((c : Thread nD τ).loc main_arg1) (ix2 r k) := by
  entry_read
  pointwise

/-- The state-space mixer's rows as the kernel finds them. -/
theorem v1_apply (c : Dev nD) (r : Fin 16384) (k : Fin 1024) : V m c main_v1 (ix2 r k) = m ((c : Thread nD τ).loc main_arg2) (ix2 r k) := by
  entry_read
  pointwise

/-- The first half of the output weights as the kernel finds it. -/
theorem v3_first (c : Dev nD) (k d : Fin 1024) : V m c main_v3 (ix3 0 k d) = m ((c : Thread nD τ).loc main_arg3) (ix2 ⟨k.val, by omega⟩ d) := by
  entry_read
  pointwise

/-- The second half of the output weights as the kernel finds it. -/
theorem v3_second (c : Dev nD) (k d : Fin 1024) : V m c main_v3 (ix3 1 k d) = m ((c : Thread nD τ).loc main_arg3) (ix2 ⟨1024 + k.val, by omega⟩ d) := by
  entry_read
  pointwise

/-- The block's normalisation weights as the kernel finds them. -/
theorem v4_apply (c : Dev nD) (k : Fin 1024) : V m c main_v4 (ix2 0 k) = m ((c : Thread nD τ).loc main_arg4) (ix1 k) := by
  entry_read
  pointwise

/-- The gate weights as the kernel finds them. -/
theorem v5_apply (c : Dev nD) (i : Fin 1024) (f : Fin 2816) : V m c main_v5 (ix2 i f) = m ((c : Thread nD τ).loc main_arg5) (ix2 i f) := by
  entry_read
  pointwise

/-- The second weights as the kernel finds them. -/
theorem v6_apply (c : Dev nD) (i : Fin 1024) (f : Fin 2816) : V m c main_v6 (ix2 i f) = m ((c : Thread nD τ).loc main_arg6) (ix2 i f) := by
  entry_read
  pointwise

/-- The last weights as the kernel finds them. -/
theorem v7_apply (c : Dev nD) (f : Fin 2816) (d : Fin 1024) : V m c main_v7 (ix2 f d) = m ((c : Thread nD τ).loc main_arg7) (ix2 f d) := by
  entry_read
  pointwise

/-- The final normalisation's weights as the kernel finds them. -/
theorem v8_apply (c : Dev nD) (k : Fin 1024) : V m c main_v8 (ix2 0 k) = m ((c : Thread nD τ).loc main_arg8) (ix1 k) := by
  entry_read
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)

set_option maxHeartbeats 2000000 in
/-- After the run the result array holds the closing rows of the whole arrays. -/
theorem final (c : Dev nD) : (dats m 0 c).arrAt 9 cfg0.N
    = rowsOf (V m c main_arg0) (V m c main_v0) (V m c main_v1) (V m c main_v3) (V m c main_v4) (V m c main_v5) (V m c main_v6) (V m c main_v7) (V m c main_v8) := by
  refine (dats m 0 c).arrAt_eq_of_covers 9 _ (by decide +kernel) fun t hf y => ?_
  blk_simp
  rw [after0_9, out_rows]
  unfold rowsOf
  blk_simp [iblk, idx0, idx1, idx2, idx3, idx4, idx5, idx6, idx7, idx8, idx9]
  have h0 : ∀ k : Fin 1024, (win0_0.blk t).view.emb (ix2 (y 0) k) = ix2 ((win0_9.blk t).view.emb y 0) k := fun k => by blk_ext [idx0, idx9]
  have h1 : ∀ k : Fin 1024, (win0_1.blk t).view.emb (ix2 (y 0) k) = ix2 ((win0_9.blk t).view.emb y 0) k := fun k => by blk_ext [idx1, idx9]
  have h2 : ∀ k : Fin 1024, (win0_2.blk t).view.emb (ix2 (y 0) k) = ix2 ((win0_9.blk t).view.emb y 0) k := fun k => by blk_ext [idx2, idx9]
  have h3 : ∀ (j : Fin 2) (k d : Fin 1024), (win0_3.blk t).view.emb (ix3 j k d) = ix3 j k d := fun j k d => by blk_ext [idx3]
  have h4 : ∀ k : Fin 1024, (win0_4.blk t).view.emb (ix2 0 k) = ix2 0 k := fun k => by blk_ext [idx4]
  have h8 : ∀ k : Fin 1024, (win0_8.blk t).view.emb (ix2 0 k) = ix2 0 k := fun k => by blk_ext [idx8]
  have h5 : ∀ (i : Fin 1024) (f : Fin 2816), (win0_5.blk t).view.emb (ix2 i f) = ix2 i f := fun i f => by blk_ext [idx5]
  have h6 : ∀ (i : Fin 1024) (f : Fin 2816), (win0_6.blk t).view.emb (ix2 i f) = ix2 i f := fun i f => by blk_ext [idx6]
  have h7 : ∀ (f : Fin 2816) (d : Fin 1024), (win0_7.blk t).view.emb (ix2 f d) = ix2 f d := fun f d => by blk_ext [idx7]
  have h9 : (win0_9.blk t).view.emb y 1 = y 1 := Fin.ext (by blk_simp [idx9])
  simp only [h0, h1, h2, h3, h4, h5, h6, h7, h8]
  exact congrArg (closeRow _ _ _ _ _ _ _ _ _ _) h9.symm

/-- The same over the arguments themselves. -/
def rows (c : Dev nD) : (⟨2, ![16384, 1024]⟩ : Shape).Idx → EReal := fun y =>
  closeRow (fun k => m ((c : Thread nD τ).loc main_arg0) (ix2 (y 0) k)) (fun k => m ((c : Thread nD τ).loc main_arg1) (ix2 (y 0) k))
    (fun k => m ((c : Thread nD τ).loc main_arg2) (ix2 (y 0) k)) (fun k d => m ((c : Thread nD τ).loc main_arg3) (ix2 ⟨k.val, by omega⟩ d))
    (fun k d => m ((c : Thread nD τ).loc main_arg3) (ix2 ⟨1024 + k.val, by omega⟩ d)) (fun k => m ((c : Thread nD τ).loc main_arg4) (ix1 k))
    (fun i f => m ((c : Thread nD τ).loc main_arg5) (ix2 i f)) (fun i f => m ((c : Thread nD τ).loc main_arg6) (ix2 i f))
    (fun f d => m ((c : Thread nD τ).loc main_arg7) (ix2 f d)) (fun k => m ((c : Thread nD τ).loc main_arg8) (ix1 k)) (y 1)

/-- After the run the result array holds the closing rows of the arguments. -/
theorem final_rows (c : Dev nD) : (dats m 0 c).arrAt 9 cfg0.N = rows m c := by
  rw [final]
  funext y
  exact closeRow_congr (funext fun k => congrFun (V_main_arg0 m c) _) (funext (v0_apply m c (y 0))) (funext (v1_apply m c (y 0)))
    (funext fun k => funext (v3_first m c k)) (funext fun k => funext (v3_second m c k)) (funext (v4_apply m c))
    (funext fun i => funext (v5_apply m c i)) (funext fun i => funext (v6_apply m c i)) (funext fun f => funext (v7_apply m c f))
    (funext (v8_apply m c)) (y 1)

end Cert.MixIdeal.Rows

end
-- ==== Proof.MixRef.lean ====
/- The plain closing reference computes the closing row of each row, and the kernel agrees with it. -/
module

public import proofs.«01_k».proof.Proof.MixOut
public import proofs.«01_k».proof.Proof.Gen.MixIdeal.Value
public import proofs.«01_k».proof.Proof.Gen.MixReferenceIdeal.Run
public import proofs.«01_k».proof.Proof.Gen.MixReferenceIdeal.Read
public import proofs.«01_k».proof.Defs

@[expose] public section

set_option maxRecDepth 16384

noncomputable section

namespace Cert.MixReferenceIdeal.Rows

open Cert.MixReferenceIdeal Cert.MixReferenceIdeal.Read Cert.Layer Idealize.ShloMosaic Idealize.ShloMosaic.TcCoe Idealize.SL.Sem

variable (x0 x1 x2 : (⟨S16384x1024, .f32⟩ : BufTy).Contents (Elt Ideal)) (x3 : (⟨S2048x1024, .f32⟩ : BufTy).Contents (Elt Ideal))
  (x4 : (⟨S1024, .f32⟩ : BufTy).Contents (Elt Ideal)) (x5 x6 : (⟨S1024x2816, .f32⟩ : BufTy).Contents (Elt Ideal)) (x7 : (⟨S2816x1024, .f32⟩ : BufTy).Contents (Elt Ideal))
  (x8 : (⟨S1024, .f32⟩ : BufTy).Contents (Elt Ideal))

/-- The mixed row of the arguments. -/
def mixOf (r : Fin 16384) : Fin 1024 → EReal :=
  mixRow (fun k => x0 (ix2 r k)) (fun k => x1 (ix2 r k)) (fun k => x2 (ix2 r k)) (fun k d => x3 (ix2 ⟨k.val, by omega⟩ d))
    (fun k d => x3 (ix2 ⟨1024 + k.val, by omega⟩ d))

/-- The joined row's first half is the attention's row. -/
theorem cat_first (r : Fin 16384) (k : Fin 1024) : val_main_v0 (F := Ideal) x1 x2 (ix2 r ⟨k.val, by omega⟩) = x1 (ix2 r k) := by
  unfold val_main_v0
  pointwise

/-- The joined row's second half is the state-space mixer's row. -/
theorem cat_second (r : Fin 16384) (k : Fin 1024) : val_main_v0 (F := Ideal) x1 x2 (ix2 r ⟨1024 + k.val, by omega⟩) = x2 (ix2 r k) := by
  unfold val_main_v0
  pointwise

/-- The reference's mixed row. -/
theorem mix_apply (r : Fin 16384) (d : Fin 1024) : val_main_v2 (F := Ideal) x0 x1 x2 x3 (ix2 r d) = mixOf x0 x1 x2 x3 r d := by
  have e : val_main_v2 (F := Ideal) x0 x1 x2 x3 (ix2 r d)
      = x0 (ix2 r d) + ∑ k : Fin 2048, val_main_v0 (F := Ideal) x1 x2 (ix2 r k) * x3 (ix2 k d) := by
    unfold val_main_v2 val_main_v1
    generalize val_main_v0 (F := Ideal) x1 x2 = u
    pointwise
  rw [e, Fin.sum_univ_add (a := 1024) (b := 1024)]
  unfold mixOf mixRow
  rw [add_assoc]
  refine congrArg (x0 (ix2 r d) + ·) (congrArg₂ (· + ·) (Finset.sum_congr rfl fun k _ => ?_) (Finset.sum_congr rfl fun k _ => ?_))
  · exact congrArg (· * x3 (ix2 ⟨k.val, by omega⟩ d)) (cat_first x1 x2 r k)
  · exact congrArg (· * x3 (ix2 ⟨1024 + k.val, by omega⟩ d)) (cat_second x1 x2 r k)

/-- The reference's normalised row. -/
theorem norm_apply (r : Fin 16384) (i : Fin 1024) :
    val_main_v15 (F := Ideal) x0 x1 x2 x3 x4 (ix2 r i) = normRow (mixOf x0 x1 x2 x3 r) (fun k => x4 (ix1 k)) i := by
  unfold normRow
  simp only [← mix_apply]
  unfold val_main_v15 val_main_v14 val_main_v13 val_main_v12 val_main_v11 val_main_v10 val_main_v9 val_main_v8 val_main_v7 val_main_v6 val_main_v5 val_main_v4 val_main_v3
  unfold val_main_cst val_main_cst_0 val_main_cst_1
  generalize val_main_v2 (F := Ideal) x0 x1 x2 x3 = u
  pointwise

/-- The reference's gate product at a position. -/
theorem gate_apply (r : Fin 16384) (f : Fin 2816) :
    val_main_v16 (F := Ideal) x0 x1 x2 x3 x4 x5 (ix2 r f) = ∑ i, normRow (mixOf x0 x1 x2 x3 r) (fun k => x4 (ix1 k)) i * x5 (ix2 i f) := by
  simp only [← norm_apply]
  unfold val_main_v16
  generalize val_main_v15 (F := Ideal) x0 x1 x2 x3 x4 = u
  pointwise

/-- The reference's second product at a position. -/
theorem up_apply (r : Fin 16384) (f : Fin 2816) :
    val_main_v18 (F := Ideal) x0 x1 x2 x3 x4 x6 (ix2 r f) = ∑ i, normRow (mixOf x0 x1 x2 x3 r) (fun k => x4 (ix1 k)) i * x6 (ix2 i f) := by
  simp only [← norm_apply]
  unfold val_main_v18
  generalize val_main_v15 (F := Ideal) x0 x1 x2 x3 x4 = u
  pointwise

/-- The reference's gated unit. -/
theorem hidden_apply (r : Fin 16384) (f : Fin 2816) :
    val_main_v19 (F := Ideal) x0 x1 x2 x3 x4 x5 x6 (ix2 r f) = Layer.hidden (normRow (mixOf x0 x1 x2 x3 r) (fun k => x4 (ix1 k)))
      (fun i f => x5 (ix2 i f)) (fun i f => x6 (ix2 i f)) f := by
  unfold Layer.hidden gated
  simp only [← gate_apply x0 x1 x2 x3 x4 x5, ← up_apply x0 x1 x2 x3 x4 x6]
  unfold val_main_v19 val_main_v17 val_main_call0_v5 val_main_call0_v4 val_main_call0_v3 val_main_call0_v2 val_main_call0_v1 val_main_call0_v0 val_main_call0_cst val_main_call0_cst_0
  generalize val_main_v16 (F := Ideal) x0 x1 x2 x3 x4 x5 = g
  generalize val_main_v18 (F := Ideal) x0 x1 x2 x3 x4 x6 = u
  pointwise
  rfl

/-- The reference's row entering the final normalisation. -/
theorem block_apply (r : Fin 16384) (d : Fin 1024) :
    val_main_v23 (F := Ideal) x0 x1 x2 x3 x4 x5 x6 x7 (ix2 r d) = ffnRow (mixOf x0 x1 x2 x3 r) (fun k => x4 (ix1 k))
      (fun i f => x5 (ix2 i f)) (fun i f => x6 (ix2 i f)) (fun f d => x7 (ix2 f d)) d := by
  unfold ffnRow
  simp only [← hidden_apply]
  rw [← mix_apply]
  unfold val_main_v23 val_main_v22 val_main_v21 val_main_v20 val_main_cst_2
  generalize val_main_v19 (F := Ideal) x0 x1 x2 x3 x4 x5 x6 = u
  generalize val_main_v2 (F := Ideal) x0 x1 x2 x3 = v
  pointwise

/-- The reference's result is the closing row of each row. -/
theorem result_apply (r : Fin 16384) (d : Fin 1024) :
    val_main_v36 (F := Ideal) x0 x1 x2 x3 x4 x5 x6 x7 x8 (ix2 r d) = closeRow (fun k => x0 (ix2 r k)) (fun k => x1 (ix2 r k)) (fun k => x2 (ix2 r k))
      (fun k d => x3 (ix2 ⟨k.val, by omega⟩ d)) (fun k d => x3 (ix2 ⟨1024 + k.val, by omega⟩ d)) (fun k => x4 (ix1 k))
      (fun i f => x5 (ix2 i f)) (fun i f => x6 (ix2 i f)) (fun f d => x7 (ix2 f d)) (fun k => x8 (ix1 k)) d := by
  show _ = normRow (ffnRow (mixOf x0 x1 x2 x3 r) (fun k => x4 (ix1 k)) (fun i f => x5 (ix2 i f)) (fun i f => x6 (ix2 i f)) (fun f d => x7 (ix2 f d)))
    (fun k => x8 (ix1 k)) d
  unfold normRow
  simp only [← block_apply]
  unfold val_main_v36 val_main_v35 val_main_v34 val_main_v33 val_main_v32 val_main_v31 val_main_v30 val_main_v29 val_main_v28 val_main_v27 val_main_v26 val_main_v25 val_main_v24
  unfold val_main_cst_3 val_main_cst_4 val_main_cst_5
  generalize val_main_v23 (F := Ideal) x0 x1 x2 x3 x4 x5 x6 x7 = u
  pointwise

end Cert.MixReferenceIdeal.Rows

namespace Cert

open Idealize.ShloMosaic Idealize.ShloMosaic.TcCoe Idealize.SL.Sem Cert.Layer

/-- The closing kernel computes the mix, the second feed-forward block and the final normalisation as written plainly. -/
theorem mix_algebraic : algebraic_MixIdeal_MixReferenceIdeal (hMixIdeal := MixIdeal.Gen.facts) (hMixReferenceIdeal := MixReferenceIdeal.Gen.facts) := by
  intro m g m' g' _ hagree
  refine ⟨fun c => MixIdeal.Rows.rows m c,
    (θ_run _ _ _).mono (fun r h c => ⟨(h c).1.trans (MixIdeal.Rows.final_rows m c), (h c).2⟩) (MixIdeal.Value.run_blocks m g),
    (θ_run _ _ _).mono (fun r h c => ⟨?_, (h c).2⟩) (MixReferenceIdeal.Value.run m' g')⟩
  refine (h c).1.trans ((MixReferenceIdeal.Read.val_main_v36_eq m' c).trans ?_)
  obtain ⟨e0, e1, e2, e3, e4, e5, e6, e7, e8⟩ := hagree c
  rw [e0, e1, e2, e3, e4, e5, e6, e7, e8]
  funext y
  obtain ⟨r, d, rfl⟩ : ∃ (r : Fin 16384) (d : Fin 1024), y = ix2 r d := ⟨y 0, y 1, eq_ix2 y⟩
  exact MixReferenceIdeal.Rows.result_apply _ _ _ _ _ _ _ _ _ r d

end Cert

end
-- ==== Proof.ProjTile.lean ====
/- The input projection's blocks: what each output's staging buffer holds after the body, index by index, as products of the
   normalised rows with the weights' columns. -/
module

public import proofs.«01_k».proof.Proof.Gen.ProjIdeal.Frame
public import proofs.«01_k».proof.Proof.RowMath
public import Idealize.ShloMosaic.Lib.Pipeline.ValueKit
public import Idealize.ShloMosaic.Lib.Pipeline.CanonAppend

@[expose] public section

set_option maxRecDepth 16384

noncomputable section

namespace Cert.ProjIdeal.Rows

open Cert.ProjIdeal Cert.ProjIdeal.Gen Cert.Layer Idealize.ShloMosaic Idealize.ShloMosaic.TcCoe Idealize.SL.Sem
open Idealize.ShloMosaic.Pipeline (Dat)

/-- The normalised rows at an index. -/
theorem unit_apply (h : Vec Ideal S512x1024 .f32) (w : Vec Ideal S1x1024 .f32) (r : Fin 512) (i : Fin 1024) :
    k0_pay4 h w (ix2 r i) = normRow (fun k => h (ix2 r k)) (fun k => w (ix2 0 k)) i := by
  unfold k0_pay4
  pointwise
  rfl

/-- A product with 512 columns of the weights. -/
theorem prod512_apply (u : FVec Ideal S512x1024 .bf16) (w : Vec Ideal S1024x512 .bf16) (r : Fin 512) (k : Fin 512) :
    k0_pay8 u w (ix2 r k) = ∑ i : Fin 1024, u (ix2 r i) * w (ix2 i k) := by
  unfold k0_pay8
  pointwise

/-- A product with 256 columns of the weights. -/
theorem prod256_apply (u : FVec Ideal S512x1024 .bf16) (w : Vec Ideal S1024x256 .bf16) (r : Fin 512) (k : Fin 256) :
    k0_pay11 u w (ix2 r k) = ∑ i : Fin 1024, u (ix2 r i) * w (ix2 i k) := by
  unfold k0_pay11
  pointwise

/-- A product with the last 32 columns of the weights. -/
theorem prod32_apply (u : FVec Ideal S512x1024 .bf16) (w : Vec Ideal S1024x32 .bf16) (r : Fin 512) (k : Fin 32) :
    k0_pay16 u w (ix2 r k) = ∑ i : Fin 1024, u (ix2 r i) * w (ix2 i k) := by
  unfold k0_pay16
  pointwise

/-- A scaled product with 512 columns of the weights. -/
theorem scaled_apply (h : Vec Ideal S512x1024 .f32) (n : Vec Ideal S1x1024 .f32) (w : Vec Ideal S1024x512 .bf16) (r : Fin 512) (k : Fin 512) :
    k0_pay5 h n w (ix2 r k) = (∑ i : Fin 1024, k0_pay4 h n (ix2 r i) * w (ix2 i k)) * Ideal.ofBits .f32 0x3E38AA3B#32 := by
  unfold k0_pay5
  generalize k0_pay4 h n = u
  pointwise

/-- The first head of a product of 256 rows of the transposed weights with the normalised rows. -/
theorem lower_apply (u : FVec Ideal S512x1024 .bf16) (w : Vec Ideal S256x1024 .bf16) (k : Fin 128) (r : Fin 512) :
    k0_pay26 u w (ix3 0 k r) = ∑ i : Fin 1024, w (ix2 ⟨k.val, by omega⟩ i) * u (ix2 r i) := by
  unfold k0_pay26 k0_pay25
  pointwise

/-- The second head of the same product. -/
theorem upper_apply (u : FVec Ideal S512x1024 .bf16) (w : Vec Ideal S256x1024 .bf16) (k : Fin 128) (r : Fin 512) :
    k0_pay28 u w (ix3 0 k r) = ∑ i : Fin 1024, w (ix2 ⟨128 + k.val, by omega⟩ i) * u (ix2 r i) := by
  unfold k0_pay28 k0_pay25
  pointwise

/-- The rows written beside each head are ones. -/
theorem ones_apply (k : Fin 16) (r : Fin 512) : k0_pay1 (F := Ideal) k0_pay18 (ix3 0 k r) = Ideal.ofBits .bf16 0x3F80#16 := by
  unfold k0_pay1 k0_pay18
  pointwise

/-- The projection of one row onto one column of the weights. -/
def projRow (h w a : Fin 1024 → EReal) : EReal := ∑ i : Fin 1024, normRow h w i * a i

/-- Equal inputs give equal projections. -/
theorem projRow_congr {h h' w w' a a' : Fin 1024 → EReal} (e₀ : h = h') (e₁ : w = w') (e₂ : a = a') : projRow h w a = projRow h' w' a' := by
  rw [e₀, e₁, e₂]

/-- Column `b + k` of the weights, for `k` below a width that fits. -/
def colPos (b d : Nat) (hb : b + d ≤ 5408) (k : Fin d) : Fin 5408 := ⟨b + k.val, Nat.lt_of_lt_of_le (Nat.add_lt_add_left k.isLt b) hb⟩

/-- The rows of a block or an array projected onto the `d` columns from `b` on. -/
def colsOf {n : Nat} (b d : Nat) (hb : b + d ≤ 5408) (x0 : (⟨2, ![n, 1024]⟩ : Shape).Idx → EReal) (x1 : (⟨2, ![1, 1024]⟩ : Shape).Idx → EReal)
    (x2 : (⟨2, ![1024, 5408]⟩ : Shape).Idx → EReal) : (⟨2, ![n, d]⟩ : Shape).Idx → EReal := fun y =>
  projRow (fun k => x0 (ix2 (y 0) k)) (fun k => x1 (ix2 0 k)) (fun i => x2 (ix2 i (colPos b d hb (y 1))))

/-- A load of all of a block is the block. -/
theorem ld_rows (x : Vec Ideal S512x1024 .f32) (h) : (View.ld x (Rect.unit ![0, 0] ![512, 1024] h) : Vec Ideal S512x1024 .f32) = x := by
  funext y
  obtain ⟨r, k, rfl⟩ : ∃ (r : Fin 512) (k : Fin 1024), y = ix2 r k := ⟨y 0, y 1, eq_ix2 y⟩
  pointwise

/-- A load of all of the gain's row is the row. -/
theorem ld_gain (x : Vec Ideal S1x1024 .f32) (h) : (View.ld x (Rect.unit ![0, 0] ![1, 1024] h) : Vec Ideal S1x1024 .f32) = x := by
  funext y
  obtain ⟨r, k, rfl⟩ : ∃ (r : Fin 1) (k : Fin 1024), y = ix2 r k := ⟨y 0, y 1, eq_ix2 y⟩
  pointwise
  exact congrArg₂ (fun i j => x (ix2 i j)) (Fin.ext (by simp)) (Fin.ext (by simp))

/-- A stored tile of 512 columns is the projection there. -/
theorem piece512 {b d : Nat} (hb : b + d ≤ 5408) (o q : Nat) (hq : q = b + o) (h₁ h₂) (x0 : Vec Ideal S512x1024 .f32) (x1 : Vec Ideal S1x1024 .f32)
    (x2 : Vec Ideal S1024x5408 .bf16) (x : S512x512.Idx) :
    k0_pay8 (k0_pay4 x0 x1) (View.ld x2 (Rect.unit ![0, q] ![1024, 512] h₂)) x = colsOf b d hb x0 x1 x2 ((Rect.unit (s := ⟨2, ![512, d]⟩) ![0, o] ![512, 512] h₁).emb x) := by
  subst hq
  obtain ⟨r, k, rfl⟩ : ∃ (r : Fin 512) (k : Fin 512), x = ix2 r k := ⟨x 0, x 1, eq_ix2 x⟩
  refine (prod512_apply _ _ r k).trans ?_
  unfold colsOf projRow
  refine Finset.sum_congr rfl fun i _ => ?_
  rw [unit_apply]
  refine congrArg₂ (· * ·) ?_ ?_
  · refine congrArg (fun q => normRow (fun k => x0 (ix2 q k)) _ i) (Fin.ext (by blk_simp))
  · pointwise
    exact congrArg (fun q => x2 (ix2 i q)) (Fin.ext (by blk_simp [colPos]; exact Nat.add_assoc b o k.val))

/-- A stored tile of 256 columns is the projection there. -/
theorem piece256 {b d : Nat} (hb : b + d ≤ 5408) (o q : Nat) (hq : q = b + o) (h₁ h₂) (x0 : Vec Ideal S512x1024 .f32) (x1 : Vec Ideal S1x1024 .f32)
    (x2 : Vec Ideal S1024x5408 .bf16) (x : S512x256.Idx) :
    k0_pay11 (k0_pay4 x0 x1) (View.ld x2 (Rect.unit ![0, q] ![1024, 256] h₂)) x = colsOf b d hb x0 x1 x2 ((Rect.unit (s := ⟨2, ![512, d]⟩) ![0, o] ![512, 256] h₁).emb x) := by
  subst hq
  obtain ⟨r, k, rfl⟩ : ∃ (r : Fin 512) (k : Fin 256), x = ix2 r k := ⟨x 0, x 1, eq_ix2 x⟩
  refine (prod256_apply _ _ r k).trans ?_
  unfold colsOf projRow
  refine Finset.sum_congr rfl fun i _ => ?_
  rw [unit_apply]
  refine congrArg₂ (· * ·) ?_ ?_
  · refine congrArg (fun q => normRow (fun k => x0 (ix2 q k)) _ i) (Fin.ext (by blk_simp))
  · pointwise
    exact congrArg (fun q => x2 (ix2 i q)) (Fin.ext (by blk_simp [colPos]; exact Nat.add_assoc b o k.val))

/-- The projection onto the `d` columns from `b` on, times the queries' scale. -/
def scaledCols {n : Nat} (b d : Nat) (hb : b + d ≤ 5408) (x0 : (⟨2, ![n, 1024]⟩ : Shape).Idx → EReal) (x1 : (⟨2, ![1, 1024]⟩ : Shape).Idx → EReal)
    (x2 : (⟨2, ![1024, 5408]⟩ : Shape).Idx → EReal) : (⟨2, ![n, d]⟩ : Shape).Idx → EReal := fun y =>
  colsOf b d hb x0 x1 x2 y * Ideal.ofBits .f32 0x3E38AA3B#32

/-- A stored scaled tile of 512 columns. -/
theorem piece512s {b d : Nat} (hb : b + d ≤ 5408) (o q : Nat) (hq : q = b + o) (h₁ h₂) (x0 : Vec Ideal S512x1024 .f32) (x1 : Vec Ideal S1x1024 .f32)
    (x2 : Vec Ideal S1024x5408 .bf16) (x : S512x512.Idx) :
    k0_pay5 x0 x1 (View.ld x2 (Rect.unit ![0, q] ![1024, 512] h₂)) x = scaledCols b d hb x0 x1 x2 ((Rect.unit (s := ⟨2, ![512, d]⟩) ![0, o] ![512, 512] h₁).emb x) := by
  subst hq
  obtain ⟨r, k, rfl⟩ : ∃ (r : Fin 512) (k : Fin 512), x = ix2 r k := ⟨x 0, x 1, eq_ix2 x⟩
  refine (scaled_apply _ _ _ r k).trans ?_
  unfold scaledCols
  refine congrArg (· * Ideal.ofBits .f32 0x3E38AA3B#32) ?_
  unfold colsOf projRow
  refine Finset.sum_congr rfl fun i _ => ?_
  rw [unit_apply]
  refine congrArg₂ (· * ·) ?_ ?_
  · refine congrArg (fun q => normRow (fun k => x0 (ix2 q k)) _ i) (Fin.ext (by blk_simp))
  · pointwise
    exact congrArg (fun q => x2 (ix2 i q)) (Fin.ext (by blk_simp [colPos]; exact Nat.add_assoc b o k.val))

/-- The step widths' block: the projection onto the last 32 columns, then zeros. -/
def stepCols {n : Nat} (x0 : (⟨2, ![n, 1024]⟩ : Shape).Idx → EReal) (x1 : (⟨2, ![1, 1024]⟩ : Shape).Idx → EReal)
    (x2 : (⟨2, ![1024, 5408]⟩ : Shape).Idx → EReal) : (⟨2, ![n, 128]⟩ : Shape).Idx → EReal := fun y =>
  if h : (y 1).val < 32 then projRow (fun k => x0 (ix2 (y 0) k)) (fun k => x1 (ix2 0 k)) (fun i => x2 (ix2 i (colPos 5376 32 (by decide) ⟨(y 1).val, h⟩))) else 0

/-- The stored tile of the last 32 columns. -/
theorem piece32 (h₁ h₂) (x0 : Vec Ideal S512x1024 .f32) (x1 : Vec Ideal S1x1024 .f32) (x2 : Vec Ideal S1024x5408 .bf16) (x : S512x32.Idx) :
    k0_pay16 (k0_pay4 x0 x1) (View.ld x2 (Rect.unit ![0, 5376] ![1024, 32] h₂)) x
      = stepCols x0 x1 x2 ((Rect.unit (s := ⟨2, ![512, 128]⟩) ![0, 0] ![512, 32] h₁).emb x) := by
  obtain ⟨r, k, rfl⟩ : ∃ (r : Fin 512) (k : Fin 32), x = ix2 r k := ⟨x 0, x 1, eq_ix2 x⟩
  refine (prod32_apply _ _ r k).trans ?_
  have e : ((Rect.unit (s := ⟨2, ![512, 128]⟩) ![0, 0] ![512, 32] h₁).emb (ix2 r k) 1).val = k.val := by blk_simp
  unfold stepCols
  rw [dif_pos (by rw [e]; exact k.isLt)]
  unfold projRow
  refine Finset.sum_congr rfl fun i _ => ?_
  rw [unit_apply]
  refine congrArg₂ (· * ·) ?_ ?_
  · refine congrArg (fun q => normRow (fun k => x0 (ix2 q k)) _ i) (Fin.ext (by blk_simp))
  · pointwise
    exact congrArg (fun q => x2 (ix2 i q)) (Fin.ext (congrArg (5376 + ·) e.symm))

/-- The stored zeros. -/
theorem piece96 (h₁) (x0 : Vec Ideal S512x1024 .f32) (x1 : Vec Ideal S1x1024 .f32) (x2 : Vec Ideal S1024x5408 .bf16) (x : S512x96.Idx) :
    k0_pay17 (F := Ideal) x = stepCols x0 x1 x2 ((Rect.unit (s := ⟨2, ![512, 128]⟩) ![0, 32] ![512, 96] h₁).emb x) := by
  obtain ⟨r, k, rfl⟩ : ∃ (r : Fin 512) (k : Fin 96), x = ix2 r k := ⟨x 0, x 1, eq_ix2 x⟩
  have e : ((Rect.unit (s := ⟨2, ![512, 128]⟩) ![0, 32] ![512, 96] h₁).emb (ix2 r k) 1).val = 32 + k.val := by blk_simp
  unfold stepCols
  rw [dif_neg (by rw [e]; omega)]
  unfold k0_pay17
  pointwise

/-- The values' block: the heads' projections transposed, 128 rows a head, and 16 rows of ones after each. -/
def valRows (x0 : Vec Ideal S512x1024 .f32) (x1 : Vec Ideal S1x1024 .f32) (x3 : Vec Ideal S1024x1024 .bf16) : S1x1152x512.Idx → EReal := fun y =>
  if h : (y 1).val % 144 < 128 then projRow (fun k => x0 (ix2 (y 2) k)) (fun k => x1 (ix2 0 k))
    (fun i => x3 (ix2 ⟨128 * ((y 1).val / 144) + (y 1).val % 144, by have : (y 1).val < 1152 := (y 1).isLt; omega⟩ i))
  else Ideal.ofBits .bf16 0x3F80#16

/-- The values' block at a row of head `e`. -/
theorem valRows_head (x0 : Vec Ideal S512x1024 .f32) (x1 : Vec Ideal S1x1024 .f32) (x3 : Vec Ideal S1024x1024 .bf16) (y : S1x1152x512.Idx)
    (e k : Nat) (hk : k < 128) (he : e < 8) (h1 : (y 1).val = 144 * e + k) : valRows x0 x1 x3 y
      = projRow (fun k => x0 (ix2 (y 2) k)) (fun k => x1 (ix2 0 k)) (fun i => x3 (ix2 ⟨128 * e + k, by omega⟩ i)) := by
  unfold valRows
  rw [dif_pos (by omega)]
  exact congrArg (fun q => projRow _ _ fun i => x3 (ix2 q i)) (Fin.ext (show 128 * ((y 1).val / 144) + (y 1).val % 144 = 128 * e + k by rw [h1]; omega))

/-- A stored first head of a product. -/
theorem pieceLow (e o q : Nat) (he : e < 8) (ho : o = 144 * e) (hq : q = 128 * e) (h₁ h₂) (x0 : Vec Ideal S512x1024 .f32) (x1 : Vec Ideal S1x1024 .f32)
    (x3 : Vec Ideal S1024x1024 .bf16) (x : S1x128x512.Idx) :
    k0_pay26 (k0_pay4 x0 x1) (View.ld x3 (Rect.unit ![q, 0] ![256, 1024] h₂)) x
      = valRows x0 x1 x3 ((Rect.unit (s := S1x1152x512) ![0, o, 0] ![1, 128, 512] h₁).emb x) := by
  obtain ⟨z, k, r, rfl⟩ : ∃ (z : Fin 1) (k : Fin 128) (r : Fin 512), x = ix3 z k r := ⟨x 0, x 1, x 2, eq_ix3 x⟩
  obtain rfl : z = 0 := Subsingleton.elim _ _
  refine (lower_apply _ _ k r).trans ?_
  rw [valRows_head _ _ _ _ e k.val k.isLt he (by subst ho; blk_simp)]
  unfold projRow
  refine Finset.sum_congr rfl fun i _ => ?_
  rw [unit_apply, mul_comm]
  refine congrArg₂ (· * ·) ?_ ?_
  · refine congrArg (fun q => normRow (fun k => x0 (ix2 q k)) _ i) (Fin.ext (by blk_simp))
  · pointwise
    exact congrArg (fun q => x3 (ix2 q i)) (Fin.ext (by subst hq; blk_simp))

/-- A stored second head of a product. -/
theorem pieceHigh (e o q : Nat) (he : e < 8) (ho : o = 144 * e) (hq : q + 128 = 128 * e) (h₁ h₂) (x0 : Vec Ideal S512x1024 .f32) (x1 : Vec Ideal S1x1024 .f32)
    (x3 : Vec Ideal S1024x1024 .bf16) (x : S1x128x512.Idx) :
    k0_pay28 (k0_pay4 x0 x1) (View.ld x3 (Rect.unit ![q, 0] ![256, 1024] h₂)) x
      = valRows x0 x1 x3 ((Rect.unit (s := S1x1152x512) ![0, o, 0] ![1, 128, 512] h₁).emb x) := by
  obtain ⟨z, k, r, rfl⟩ : ∃ (z : Fin 1) (k : Fin 128) (r : Fin 512), x = ix3 z k r := ⟨x 0, x 1, x 2, eq_ix3 x⟩
  obtain rfl : z = 0 := Subsingleton.elim _ _
  refine (upper_apply _ _ k r).trans ?_
  rw [valRows_head _ _ _ _ e k.val k.isLt he (by subst ho; blk_simp)]
  unfold projRow
  refine Finset.sum_congr rfl fun i _ => ?_
  rw [unit_apply, mul_comm]
  refine congrArg₂ (· * ·) ?_ ?_
  · refine congrArg (fun q => normRow (fun k => x0 (ix2 q k)) _ i) (Fin.ext (by blk_simp))
  · pointwise
    exact congrArg (fun q => x3 (ix2 q i)) (Fin.ext (show q + (128 + k.val) = 128 * e + k.val by omega))

/-- The stored ones. -/
theorem pieceOnes (e o : Nat) (he : e < 8) (ho : o = 144 * e + 128) (h₁) (x0 : Vec Ideal S512x1024 .f32) (x1 : Vec Ideal S1x1024 .f32)
    (x3 : Vec Ideal S1024x1024 .bf16) (x : S1x16x512.Idx) :
    k0_pay1 (F := Ideal) k0_pay18 x = valRows x0 x1 x3 ((Rect.unit (s := S1x1152x512) ![0, o, 0] ![1, 16, 512] h₁).emb x) := by
  obtain ⟨z, k, r, rfl⟩ : ∃ (z : Fin 1) (k : Fin 16) (r : Fin 512), x = ix3 z k r := ⟨x 0, x 1, x 2, eq_ix3 x⟩
  obtain rfl : z = 0 := Subsingleton.elim _ _
  refine (ones_apply k r).trans ?_
  have h : ((Rect.unit (s := S1x1152x512) ![0, o, 0] ![1, 16, 512] h₁).emb (ix3 0 k r) 1).val = o + k.val := by blk_simp
  unfold valRows
  rw [dif_neg (by rw [h]; omega)]

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5408 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1024 .bf16) (harg6 : arg6.IsWhole) (arg7 : Memref sig .tc .vmem S1x1152x512 .bf16) (harg7 : arg7.IsWhole) (arg8 : Memref sig .tc .vmem S512x1024 .bf16) (harg8 : arg8.IsWhole)
  (arg9 : Memref sig .tc .vmem S512x1280 .bf16) (harg9 : arg9.IsWhole) (arg10 : Memref sig .tc .vmem S512x128 .f32) (harg10 : arg10.IsWhole)
  (x0 : Vec Ideal S512x1024 .f32) (x1 : Vec Ideal S1x1024 .f32) (x2 : Vec Ideal S1024x5408 .bf16) (x3 : Vec Ideal S1024x1024 .bf16)

/-- The body's normalised rows. -/
theorem norm_run : kernelRun0_A.sl.r c arg1 harg1 arg2 harg2 x0 x1 = k0_pay4 x0 x1 := by
  unfold kernelRun0_A.sl.r
  simp only [View.readAt_eq_ld, Memref.IsWhole.read_unread]
  rw [ld_rows, ld_gain]

/-- The queries' block. -/
theorem out4 : out0_A_4 c i arg1 harg1 arg2 harg2 arg3 harg3 arg4 harg4 arg5 harg5 arg6 harg6 arg7 harg7 arg8 harg8 arg9 harg9 arg10 harg10 x0 x1 x2 x3 = scaledCols 0 1024 (by decide) x0 x1 x2 := by
  unfold out0_A_4
  rw [View.read_writes_junk_eq_canon]
  funext y
  have h := View.canon_append_of_pieces (Val := Elt Ideal) (e := .bf16) (scaledCols 0 1024 (by decide) x0 x1 x2) [] _ ?_ y (cover0_A_4 c i arg1 harg1 arg2 harg2 arg3 harg3 arg4 harg4 arg5 harg5 arg6 harg6 arg7 harg7 arg8 harg8 arg9 harg9 arg10 harg10 x0 x1 x2 x3 y)
  · rwa [List.append_nil] at h
  · unfold kernelRun0_A
    dsimp only
    simp only [View.readAt_eq_ld, Memref.IsWhole.read_unread, ld_rows, ld_gain]
    refine List.forall_mem_cons.2 ⟨fun x => ?_, List.forall_mem_cons.2 ⟨fun x => ?_, List.forall_mem_nil _⟩⟩
    · exact piece512s (b := 0) (d := 1024) (by decide) 512 512 rfl inb_S512x1024_S512x512_0_512 inb_S1024x5408_S1024x512_0_512 x0 x1 x2 x
    · exact piece512s (b := 0) (d := 1024) (by decide) 0 0 rfl inb_S512x1024_S512x512_0_0 inb_S1024x5408_S1024x512_0_0 x0 x1 x2 x

/-- The keys' block. -/
theorem out5 : out0_A_5 c i arg1 harg1 arg2 harg2 arg3 harg3 arg4 harg4 arg5 harg5 arg6 harg6 arg7 harg7 arg8 harg8 arg9 harg9 arg10 harg10 x0 x1 x2 x3 = colsOf 1024 1024 (by decide) x0 x1 x2 := by
  unfold out0_A_5
  rw [View.read_writes_junk_eq_canon]
  funext y
  have h := View.canon_append_of_pieces (Val := Elt Ideal) (e := .bf16) (colsOf 1024 1024 (by decide) x0 x1 x2) [] _ ?_ y (cover0_A_5 c i arg1 harg1 arg2 harg2 arg3 harg3 arg4 harg4 arg5 harg5 arg6 harg6 arg7 harg7 arg8 harg8 arg9 harg9 arg10 harg10 x0 x1 x2 x3 y)
  · rwa [List.append_nil] at h
  · unfold kernelRun0_A
    dsimp only
    unfold kernelRun0_A.sl.r_1
    rw [norm_run]
    simp only [View.readAt_eq_ld, Memref.IsWhole.read_unread, ld_rows, ld_gain]
    refine List.forall_mem_cons.2 ⟨fun x => ?_, List.forall_mem_cons.2 ⟨fun x => ?_, List.forall_mem_nil _⟩⟩
    · exact piece512 (b := 1024) (d := 1024) (by decide) 512 1536 rfl inb_S512x1024_S512x512_0_512 inb_S1024x5408_S1024x512_0_1536 x0 x1 x2 x
    · exact piece512 (b := 1024) (d := 1024) (by decide) 0 1024 rfl inb_S512x1024_S512x512_0_0 inb_S1024x5408_S1024x512_0_1024 x0 x1 x2 x

/-- The gates' block. -/
theorem out7 : out0_A_7 c i arg1 harg1 arg2 harg2 arg3 harg3 arg4 harg4 arg5 harg5 arg6 harg6 arg7 harg7 arg8 harg8 arg9 harg9 arg10 harg10 x0 x1 x2 x3 = colsOf 3072 1024 (by decide) x0 x1 x2 := by
  unfold out0_A_7
  rw [View.read_writes_junk_eq_canon]
  funext y
  have h := View.canon_append_of_pieces (Val := Elt Ideal) (e := .bf16) (colsOf 3072 1024 (by decide) x0 x1 x2) [] _ ?_ y (cover0_A_7 c i arg1 harg1 arg2 harg2 arg3 harg3 arg4 harg4 arg5 harg5 arg6 harg6 arg7 harg7 arg8 harg8 arg9 harg9 arg10 harg10 x0 x1 x2 x3 y)
  · rwa [List.append_nil] at h
  · unfold kernelRun0_A
    dsimp only
    rw [norm_run]
    simp only [View.readAt_eq_ld, Memref.IsWhole.read_unread, ld_rows, ld_gain]
    refine List.forall_mem_cons.2 ⟨fun x => ?_, List.forall_mem_cons.2 ⟨fun x => ?_, List.forall_mem_nil _⟩⟩
    · exact piece512 (b := 3072) (d := 1024) (by decide) 512 3584 rfl inb_S512x1024_S512x512_0_512 inb_S1024x5408_S1024x512_0_3584 x0 x1 x2 x
    · exact piece512 (b := 3072) (d := 1024) (by decide) 0 3072 rfl inb_S512x1024_S512x512_0_0 inb_S1024x5408_S1024x512_0_3072 x0 x1 x2 x

/-- The convolution's block. -/
theorem out8 : out0_A_8 c i arg1 harg1 arg2 harg2 arg3 harg3 arg4 harg4 arg5 harg5 arg6 harg6 arg7 harg7 arg8 harg8 arg9 harg9 arg10 harg10 x0 x1 x2 x3 = colsOf 4096 1280 (by decide) x0 x1 x2 := by
  unfold out0_A_8
  rw [View.read_writes_junk_eq_canon]
  funext y
  have h := View.canon_append_of_pieces (Val := Elt Ideal) (e := .bf16) (colsOf 4096 1280 (by decide) x0 x1 x2) [] _ ?_ y (cover0_A_8 c i arg1 harg1 arg2 harg2 arg3 harg3 arg4 harg4 arg5 harg5 arg6 harg6 arg7 harg7 arg8 harg8 arg9 harg9 arg10 harg10 x0 x1 x2 x3 y)
  · rwa [List.append_nil] at h
  · unfold kernelRun0_A
    dsimp only
    rw [norm_run]
    simp only [View.readAt_eq_ld, Memref.IsWhole.read_unread, ld_rows, ld_gain]
    refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩
    · exact piece256 (b := 4096) (d := 1280) (by decide) 1024 5120 rfl inb_S512x1280_S512x256_0_1024 inb_S1024x5408_S1024x256_0_5120 x0 x1 x2 x
    · exact piece256 (b := 4096) (d := 1280) (by decide) 768 4864 rfl inb_S512x1280_S512x256_0_768 inb_S1024x5408_S1024x256_0_4864 x0 x1 x2 x
    · exact piece256 (b := 4096) (d := 1280) (by decide) 512 4608 rfl inb_S512x1280_S512x256_0_512 inb_S1024x5408_S1024x256_0_4608 x0 x1 x2 x
    · exact piece256 (b := 4096) (d := 1280) (by decide) 256 4352 rfl inb_S512x1280_S512x256_0_256 inb_S1024x5408_S1024x256_0_4352 x0 x1 x2 x
    · exact piece256 (b := 4096) (d := 1280) (by decide) 0 4096 rfl inb_S512x1280_S512x256_0_0 inb_S1024x5408_S1024x256_0_4096 x0 x1 x2 x

/-- The step widths' block. -/
theorem out9 : out0_A_9 c i arg1 harg1 arg2 harg2 arg3 harg3 arg4 harg4 arg5 harg5 arg6 harg6 arg7 harg7 arg8 harg8 arg9 harg9 arg10 harg10 x0 x1 x2 x3 = stepCols x0 x1 x2 := by
  unfold out0_A_9
  rw [View.read_writes_junk_eq_canon]
  funext y
  have h := View.canon_append_of_pieces (Val := Elt Ideal) (e := .f32) (stepCols x0 x1 x2) [] _ ?_ y (cover0_A_9 c i arg1 harg1 arg2 harg2 arg3 harg3 arg4 harg4 arg5 harg5 arg6 harg6 arg7 harg7 arg8 harg8 arg9 harg9 arg10 harg10 x0 x1 x2 x3 y)
  · rwa [List.append_nil] at h
  · unfold kernelRun0_A
    dsimp only
    rw [norm_run]
    simp only [View.readAt_eq_ld, Memref.IsWhole.read_unread, ld_rows, ld_gain]
    refine List.forall_mem_cons.2 ⟨fun x => ?_, List.forall_mem_cons.2 ⟨fun x => ?_, List.forall_mem_nil _⟩⟩
    · exact piece96 inb_S512x128_S512x96_0_32 x0 x1 x2 x
    · exact piece32 inb_S512x128_S512x32_0_0 inb_S1024x5408_S1024x32_0_5376 x0 x1 x2 x

/-- The values' block. -/
theorem out6 : out0_A_6 c i arg1 harg1 arg2 harg2 arg3 harg3 arg4 harg4 arg5 harg5 arg6 harg6 arg7 harg7 arg8 harg8 arg9 harg9 arg10 harg10 x0 x1 x2 x3 = valRows x0 x1 x3 := by
  unfold out0_A_6
  rw [View.read_writes_junk_eq_canon]
  funext y
  have h := View.canon_append_of_pieces (Val := Elt Ideal) (e := .bf16) (valRows x0 x1 x3) [] _ ?_ y (cover0_A_6 c i arg1 harg1 arg2 harg2 arg3 harg3 arg4 harg4 arg5 harg5 arg6 harg6 arg7 harg7 arg8 harg8 arg9 harg9 arg10 harg10 x0 x1 x2 x3 y)
  · rwa [List.append_nil] at h
  · unfold kernelRun0_A
    dsimp only
    unfold kernelRun0_A.sl.r_2 kernelRun0_A.sl.r_3 kernelRun0_A.sl.r_4
    rw [norm_run]
    simp only [View.readAt_eq_ld, Memref.IsWhole.read_unread, ld_rows, ld_gain]
    refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩⟩⟩⟩⟩⟩⟩⟩⟩
    · exact pieceOnes 7 1136 (by decide) rfl inb_S1x1152x512_S1x16x512_0_1136_0 x0 x1 x3 x
    · exact pieceHigh 7 1008 768 (by decide) rfl rfl inb_S1x1152x512_S1x128x512_0_1008_0 inb_S1024x1024_S256x1024_768_0 x0 x1 x3 x
    · exact pieceOnes 6 992 (by decide) rfl inb_S1x1152x512_S1x16x512_0_992_0 x0 x1 x3 x
    · exact pieceLow 6 864 768 (by decide) rfl rfl inb_S1x1152x512_S1x128x512_0_864_0 inb_S1024x1024_S256x1024_768_0 x0 x1 x3 x
    · exact pieceOnes 5 848 (by decide) rfl inb_S1x1152x512_S1x16x512_0_848_0 x0 x1 x3 x
    · exact pieceHigh 5 720 512 (by decide) rfl rfl inb_S1x1152x512_S1x128x512_0_720_0 inb_S1024x1024_S256x1024_512_0 x0 x1 x3 x
    · exact pieceOnes 4 704 (by decide) rfl inb_S1x1152x512_S1x16x512_0_704_0 x0 x1 x3 x
    · exact pieceLow 4 576 512 (by decide) rfl rfl inb_S1x1152x512_S1x128x512_0_576_0 inb_S1024x1024_S256x1024_512_0 x0 x1 x3 x
    · exact pieceOnes 3 560 (by decide) rfl inb_S1x1152x512_S1x16x512_0_560_0 x0 x1 x3 x
    · exact pieceHigh 3 432 256 (by decide) rfl rfl inb_S1x1152x512_S1x128x512_0_432_0 inb_S1024x1024_S256x1024_256_0 x0 x1 x3 x
    · exact pieceOnes 2 416 (by decide) rfl inb_S1x1152x512_S1x16x512_0_416_0 x0 x1 x3 x
    · exact pieceLow 2 288 256 (by decide) rfl rfl inb_S1x1152x512_S1x128x512_0_288_0 inb_S1024x1024_S256x1024_256_0 x0 x1 x3 x
    · exact pieceOnes 1 272 (by decide) rfl inb_S1x1152x512_S1x16x512_0_272_0 x0 x1 x3 x
    · exact pieceHigh 1 144 0 (by decide) rfl rfl inb_S1x1152x512_S1x128x512_0_144_0 inb_S1024x1024_S256x1024_0_0 x0 x1 x3 x
    · exact pieceOnes 0 128 (by decide) rfl inb_S1x1152x512_S1x16x512_0_128_0 x0 x1 x3 x
    · exact pieceLow 0 0 0 (by decide) rfl rfl inb_S1x1152x512_S1x128x512_0_0_0 inb_S1024x1024_S256x1024_0_0 x0 x1 x3 x

end Cert.ProjIdeal.Rows

end
-- ==== Proof.ProjOut.lean ====
/- The input projection's result arrays: what the call leaves in each of them, as projections of the normalised rows. -/
module

public import proofs.«01_k».proof.Proof.ProjTile

@[expose] public section

set_option maxRecDepth 16384

noncomputable section

namespace Cert.ProjIdeal.Rows

open Cert.ProjIdeal Cert.ProjIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gain as the kernel finds it: one row. -/
theorem v1_apply (c : Dev nD) (k : Fin 1024) : V m c main_v1 (ix2 0 k) = m ((c : Thread nD τ).loc main_arg1) (ix1 k) := by
  show StableHlo.after hostOps0 _ (Proc.devRef .tc main_v1) _ = _
  after_results
  pointwise

/-- The weights as the kernel finds them. -/
theorem v0_apply (c : Dev nD) (i : Fin 1024) (f : Fin 5408) : V m c main_v0 (ix2 i f) = m ((c : Thread nD τ).loc main_arg2) (ix2 i f) := by
  show StableHlo.after hostOps0 _ (Proc.devRef .tc main_v0) _ = _
  after_results
  pointwise

/-- The values' columns of the weights as the kernel finds them: transposed. -/
theorem v3_apply (c : Dev nD) (f i : Fin 1024) :
    V m c main_v3 (ix2 f i) = m ((c : Thread nD τ).loc main_arg2) (ix2 i (colPos 2048 1024 (by decide) f)) := by
  show StableHlo.after hostOps0 _ (Proc.devRef .tc main_v3) _ = _
  after_results
  pointwise
  rfl

theorem idx0 : ∀ t : Fin cfg0.N, win0_0.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx6 : ∀ t : Fin cfg0.N, win0_6.index t = ![t.val, 0, 0] := (by decide +kernel : ∀ t : Fin grid0.N, _)

/-- A block of the residual rows, at an index of a result's block of `d` columns. -/
theorem rows_blk (c : Dev nD) (t : Fin cfg0.N) (r : Fin 512) (k : Fin 1024) (q : Fin 16384) (hq : q.val = 512 * t.val + r.val) :
    iblk m c 0 t (ix2 r k) = V m c main_arg0 (ix2 q k) := by
  blk_simp [iblk]
  exact congrArg _ (by blk_ext [idx0, hq])

/-- The gain's block. -/
theorem gain_blk (c : Dev nD) (t : Fin cfg0.N) (k : Fin 1024) : iblk m c 1 t (ix2 0 k) = V m c main_v1 (ix2 0 k) := by
  blk_simp [iblk]
  exact congrArg _ (by blk_ext [idx1])

/-- The weights' block. -/
theorem weight_blk (c : Dev nD) (t : Fin cfg0.N) (i : Fin 1024) (f : Fin 5408) : iblk m c 2 t (ix2 i f) = V m c main_v0 (ix2 i f) := by
  blk_simp [iblk]
  exact congrArg _ (by blk_ext [idx2])

/-- The transposed columns' block. -/
theorem value_blk (c : Dev nD) (t : Fin cfg0.N) (f i : Fin 1024) : iblk m c 3 t (ix2 f i) = V m c main_v3 (ix2 f i) := by
  blk_simp [iblk]
  exact congrArg _ (by blk_ext [idx3])

/-- The projection of row `q` of the arguments onto column `f`. -/
def proj (c : Dev nD) (q : Fin 16384) (f : Fin 5408) : EReal :=
  projRow (fun k => m ((c : Thread nD τ).loc main_arg0) (ix2 q k)) (fun k => m ((c : Thread nD τ).loc main_arg1) (ix1 k))
    (fun i => m ((c : Thread nD τ).loc main_arg2) (ix2 i f))

/-- A block's projection is the arguments' projection at the block's rows. -/
theorem proj_blk (c : Dev nD) (t : Fin cfg0.N) (r : Fin 512) (q : Fin 16384) (f : Fin 5408) (hq : q.val = 512 * t.val + r.val) :
    projRow (fun k => iblk m c 0 t (ix2 r k)) (fun k => iblk m c 1 t (ix2 0 k)) (fun i => iblk m c 2 t (ix2 i f)) = proj m c q f :=
  projRow_congr (funext fun k => (rows_blk m c t r k q hq).trans (congrFun (V_main_arg0 m c) _)) (funext fun k => (gain_blk m c t k).trans (v1_apply m c k))
    (funext fun i => (weight_blk m c t i f).trans (v0_apply m c i f))

/-- A block's transposed projection is the arguments' projection at the block's rows. -/
theorem val_blk (c : Dev nD) (t : Fin cfg0.N) (r : Fin 512) (q : Fin 16384) (f : Fin 1024) (hq : q.val = 512 * t.val + r.val) :
    projRow (fun k => iblk m c 0 t (ix2 r k)) (fun k => iblk m c 1 t (ix2 0 k)) (fun i => iblk m c 3 t (ix2 f i))
      = proj m c q (colPos 2048 1024 (by decide) f) :=
  projRow_congr (funext fun k => (rows_blk m c t r k q hq).trans (congrFun (V_main_arg0 m c) _)) (funext fun k => (gain_blk m c t k).trans (v1_apply m c k))
    (funext fun i => (value_blk m c t f i).trans (v3_apply m c f i))

/-- The queries' block at a grid point. -/
theorem outs4 (c : Dev nD) (t : Fin cfg0.N) : (outsAt0 m c t).1 = scaledCols (n := 512) 0 1024 (by decide) (iblk m c 0 t) (iblk m c 1 t) (iblk m c 2 t) := by
  unfold outsAt0
  dsimp only
  exact out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t)

/-- The keys' block at a grid point. -/
theorem outs5 (c : Dev nD) (t : Fin cfg0.N) : (outsAt0 m c t).2.1 = colsOf (n := 512) 1024 1024 (by decide) (iblk m c 0 t) (iblk m c 1 t) (iblk m c 2 t) := by
  unfold outsAt0
  dsimp only
  exact out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t)

/-- The values' block at a grid point. -/
theorem outs6 (c : Dev nD) (t : Fin cfg0.N) : (outsAt0 m c t).2.2.1 = valRows (iblk m c 0 t) (iblk m c 1 t) (iblk m c 3 t) := by
  unfold outsAt0
  dsimp only
  exact out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t)

/-- The gates' block at a grid point. -/
theorem outs7 (c : Dev nD) (t : Fin cfg0.N) : (outsAt0 m c t).2.2.2.1 = colsOf (n := 512) 3072 1024 (by decide) (iblk m c 0 t) (iblk m c 1 t) (iblk m c 2 t) := by
  unfold outsAt0
  dsimp only
  exact out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t)

/-- The convolution's block at a grid point. -/
theorem outs8 (c : Dev nD) (t : Fin cfg0.N) : (outsAt0 m c t).2.2.2.2.1 = colsOf (n := 512) 4096 1280 (by decide) (iblk m c 0 t) (iblk m c 1 t) (iblk m c 2 t) := by
  unfold outsAt0
  dsimp only
  exact out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t)

/-- The step widths' block at a grid point. -/
theorem outs9 (c : Dev nD) (t : Fin cfg0.N) : (outsAt0 m c t).2.2.2.2.2 = stepCols (iblk m c 0 t) (iblk m c 1 t) (iblk m c 2 t) := by
  unfold outsAt0
  dsimp only
  exact out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t)

/-- The keys' array. -/
theorem final5 (c : Dev nD) : (dats m 0 c).arrAt 5 cfg0.N = fun y : S16384x1024.Idx => proj m c (y 0) (colPos 1024 1024 (by decide) (y 1)) := by
  refine (dats m 0 c).arrAt_eq_of_covers 5 _ (by decide +kernel) fun t hf y => ?_
  blk_simp
  rw [after0_5, outs5]
  unfold colsOf
  refine (proj_blk m c t (y 0) ((win0_5.blk t).view.emb y 0) _ (by blk_simp [idx5]; omega)).trans ?_
  exact congrArg (fun k => proj m c _ (colPos 1024 1024 (by decide) k)) (Fin.ext (by blk_simp [idx5]))

/-- The gates' array. -/
theorem final7 (c : Dev nD) : (dats m 0 c).arrAt 7 cfg0.N = fun y : S16384x1024.Idx => proj m c (y 0) (colPos 3072 1024 (by decide) (y 1)) := by
  refine (dats m 0 c).arrAt_eq_of_covers 7 _ (by decide +kernel) fun t hf y => ?_
  blk_simp
  rw [after0_7, outs7]
  unfold colsOf
  refine (proj_blk m c t (y 0) ((win0_7.blk t).view.emb y 0) _ (by blk_simp [idx7]; omega)).trans ?_
  exact congrArg (fun k => proj m c _ (colPos 3072 1024 (by decide) k)) (Fin.ext (by blk_simp [idx7]))

/-- The convolution's array. -/
theorem final8 (c : Dev nD) : (dats m 0 c).arrAt 8 cfg0.N = fun y : S16384x1280.Idx => proj m c (y 0) (colPos 4096 1280 (by decide) (y 1)) := by
  refine (dats m 0 c).arrAt_eq_of_covers 8 _ (by decide +kernel) fun t hf y => ?_
  blk_simp
  rw [after0_8, outs8]
  unfold colsOf
  refine (proj_blk m c t (y 0) ((win0_8.blk t).view.emb y 0) _ (by blk_simp [idx8]; omega)).trans ?_
  exact congrArg (fun k => proj m c _ (colPos 4096 1280 (by decide) k)) (Fin.ext (by blk_simp [idx8]))

/-- The queries' array. -/
theorem final4 (c : Dev nD) : (dats m 0 c).arrAt 4 cfg0.N = fun y : S16384x1024.Idx => proj m c (y 0) (colPos 0 1024 (by decide) (y 1)) * Ideal.ofBits .f32 0x3E38AA3B#32 := by
  refine (dats m 0 c).arrAt_eq_of_covers 4 _ (by decide +kernel) fun t hf y => ?_
  blk_simp
  rw [after0_4, outs4]
  unfold scaledCols colsOf
  refine congrArg (· * Ideal.ofBits .f32 0x3E38AA3B#32) ?_
  refine (proj_blk m c t (y 0) ((win0_4.blk t).view.emb y 0) _ (by blk_simp [idx4]; omega)).trans ?_
  exact congrArg (fun k => proj m c _ (colPos 0 1024 (by decide) k)) (Fin.ext (by blk_simp [idx4]))

/-- An entry of the step widths' array: the projected step width in the first 32 columns, 0 after. -/
def stepAt (c : Dev nD) (r : Fin 16384) (j : Fin 128) : EReal :=
  if h : j.val < 32 then proj m c r (colPos 5376 32 (by decide) ⟨j.val, h⟩) else 0

/-- An entry of the values' array: of each 144 rows of a head the first 128 are columns of the
    projection, the others are one. -/
def valAt (c : Dev nD) (b : Fin 32) (p : Fin 1152) (r : Fin 512) : EReal :=
  if _h : p.val % 144 < 128 then
    proj m c ⟨512 * b.val + r.val, by omega⟩
      (colPos 2048 1024 (by decide) ⟨128 * (p.val / 144) + p.val % 144, by omega⟩)
  else Ideal.ofBits .bf16 0x3F80#16

/-- The step widths' array. -/
theorem final9 (c : Dev nD) : (dats m 0 c).arrAt 9 cfg0.N = fun y : S16384x128.Idx => stepAt m c (y 0) (y 1) := by
  refine (dats m 0 c).arrAt_eq_of_covers 9 _ (by decide +kernel) fun t hf y => ?_
  have e : (win0_9.blk t).view.emb y 1 = y 1 := Fin.ext (by blk_simp [idx9])
  refine Eq.trans ?_ (congrArg (stepAt m c _) e.symm)
  blk_simp
  rw [after0_9, outs9]
  unfold stepCols stepAt
  refine dite_congr rfl (fun h => ?_) fun _ => rfl
  exact proj_blk m c t (y 0) ((win0_9.blk t).view.emb y 0) _ (by blk_simp [idx9]; omega)

/-- The values' array. -/
theorem final6 (c : Dev nD) : (dats m 0 c).arrAt 6 cfg0.N = fun y : S32x1152x512.Idx => valAt m c (y 0) (y 1) (y 2) := by
  refine (dats m 0 c).arrAt_eq_of_covers 6 _ (by decide +kernel) fun t hf y => ?_
  have e₁ : (win0_6.blk t).view.emb y 1 = y 1 := Fin.ext (by blk_simp [idx6])
  have e₂ : (win0_6.blk t).view.emb y 2 = y 2 := Fin.ext (by blk_simp [idx6])
  have e₀ : ((win0_6.blk t).view.emb y 0).val = t.val := by blk_simp [idx6]
  refine Eq.trans ?_ (congrArg₂ (valAt m c _) e₁.symm e₂.symm)
  blk_simp
  rw [after0_6, outs6]
  unfold valRows valAt
  refine dite_congr rfl (fun h => ?_) fun _ => rfl
  exact val_blk m c t (y 2) _ _ (congrArg (512 * · + (y 2).val) e₀)

end Cert.ProjIdeal.Rows

end
-- ==== Proof.ProjTail.lean ====
/- The host's lines after the input projection's call: each result at an index, as a projection of a normalised row. -/
module

public import proofs.«01_k».proof.Proof.ProjOut

@[expose] public section

set_option maxRecDepth 16384

noncomputable section

namespace Cert.ProjIdeal.Rows

open Cert.ProjIdeal Cert.ProjIdeal.Gen Cert.Layer Idealize.ShloMosaic Idealize.ShloMosaic.TcCoe Idealize.SL.Sem
open Idealize.ShloMosaic.Pipeline (Dat)

variable (m : (ℓ : Loc nD τ sig) → Buf (Elt Ideal) ℓ)

/-- The scale the kernel multiplies its queries by is a real number other than zero. -/
theorem scale_eq : ∃ r : ℝ, r ≠ 0 ∧ Ideal.ofBits .f32 0x3E38AA3B#32 = (r : EReal) := by
  refine ⟨12102203 / 67108864, by norm_num, ?_⟩
  simp [Ideal.ofBits, Ideal.ieee, -EReal.coe_mul]
  norm_num

/-- Dividing the scale out again. -/
theorem div_scale (x : EReal) : Ideal.div (x * Ideal.ofBits .f32 0x3E38AA3B#32) (Ideal.ofBits .f32 0x3E38AA3B#32) = x := by
  obtain ⟨r, hr, e⟩ := scale_eq
  rw [e, Ideal.div_coe hr, mul_assoc, ← EReal.coe_mul, mul_one_div_cancel hr, EReal.coe_one, mul_one]

/-- What the host's lines after the call find in an output's array. -/
abbrev found (c : Dev nD) := Pipeline.withArrays (cfgs 0).spec c (V0 m c) fun w => (dats m 0 c).arrAt w (cfgs 0).N

theorem found4 (c : Dev nD) : found m c (Proc.devRef .tc main_v4_0) = (dats m 0 c).arrAt 4 cfg0.N :=
  Pipeline.withArrays_arr spec0 launch0.win.arr_inj c (V0 m c) _ 4

theorem found5 (c : Dev nD) : found m c (Proc.devRef .tc main_v4_1) = (dats m 0 c).arrAt 5 cfg0.N :=
  Pipeline.withArrays_arr spec0 launch0.win.arr_inj c (V0 m c) _ 5

theorem found6 (c : Dev nD) : found m c (Proc.devRef .tc main_v4_2) = (dats m 0 c).arrAt 6 cfg0.N :=
  Pipeline.withArrays_arr spec0 launch0.win.arr_inj c (V0 m c) _ 6

theorem found7 (c : Dev nD) : found m c (Proc.devRef .tc main_v4_3) = (dats m 0 c).arrAt 7 cfg0.N :=
  Pipeline.withArrays_arr spec0 launch0.win.arr_inj c (V0 m c) _ 7

theorem found8 (c : Dev nD) : found m c (Proc.devRef .tc main_v4_4) = (dats m 0 c).arrAt 8 cfg0.N :=
  Pipeline.withArrays_arr spec0 launch0.win.arr_inj c (V0 m c) _ 8

theorem found9 (c : Dev nD) : found m c (Proc.devRef .tc main_v4_5) = (dats m 0 c).arrAt 9 cfg0.N :=
  Pipeline.withArrays_arr spec0 launch0.win.arr_inj c (V0 m c) _ 9

/-- The keys. -/
theorem tail12 (c : Dev nD) (r : Fin 16384) (k : Fin 1024) :
    Pipeline.afterTail₀ cfgs (dats m) 0 (V0 m) [hostOps1] c main_v12 (ix2 r k) = proj m c r (colPos 1024 1024 (by decide) k) := by
  unfold Pipeline.afterTail₀
  show StableHlo.after hostOps1 _ (Proc.devRef .tc main_v12) (ix2 r k) = _
  after_results
  refine (congrFun ((found5 m c).trans (final5 m c)) (ix2 r k)).trans ?_
  rfl

/-- The gates. -/
theorem tail14 (c : Dev nD) (r : Fin 16384) (k : Fin 1024) :
    Pipeline.afterTail₀ cfgs (dats m) 0 (V0 m) [hostOps1] c main_v14 (ix2 r k) = proj m c r (colPos 3072 1024 (by decide) k) := by
  unfold Pipeline.afterTail₀
  show StableHlo.after hostOps1 _ (Proc.devRef .tc main_v14) (ix2 r k) = _
  after_results
  refine (congrFun ((found7 m c).trans (final7 m c)) (ix2 r k)).trans ?_
  rfl

/-- The convolution's input. -/
theorem tail15 (c : Dev nD) (r : Fin 16384) (k : Fin 1280) :
    Pipeline.afterTail₀ cfgs (dats m) 0 (V0 m) [hostOps1] c main_v15 (ix2 r k) = proj m c r (colPos 4096 1280 (by decide) k) := by
  unfold Pipeline.afterTail₀
  show StableHlo.after hostOps1 _ (Proc.devRef .tc main_v15) (ix2 r k) = _
  after_results
  refine (congrFun ((found8 m c).trans (final8 m c)) (ix2 r k)).trans ?_
  rfl

/-- The queries, the scale divided out. -/
theorem tail11 (c : Dev nD) (r : Fin 16384) (k : Fin 1024) :
    Pipeline.afterTail₀ cfgs (dats m) 0 (V0 m) [hostOps1] c main_v11 (ix2 r k) = proj m c r (colPos 0 1024 (by decide) k) := by
  unfold Pipeline.afterTail₀
  show StableHlo.after hostOps1 _ (Proc.devRef .tc main_v11) (ix2 r k) = _
  after_results
  refine Eq.trans ?_ (div_scale _)
  refine congrArg (fun x => Ideal.div x _) (congrFun ((found4 m c).trans (final4 m c)) (ix2 r k))

/-- The step widths, the padding dropped. -/
theorem tail16 (c : Dev nD) (r : Fin 16384) (k : Fin 32) :
    Pipeline.afterTail₀ cfgs (dats m) 0 (V0 m) [hostOps1] c main_v16 (ix2 r k) = proj m c r (colPos 5376 32 (by decide) k) := by
  unfold Pipeline.afterTail₀
  show StableHlo.after hostOps1 _ (Proc.devRef .tc main_v16) (ix2 r k) = _
  after_results
  refine (extractStridedSlice_apply ![0, 0] _ slices_S16384x128_S16384x32_0_0 (ix2 r k) (ix2 r (⟨k.val, k.isLt.trans (by decide)⟩ : Fin 128)) (by
    intro a; match a with | ⟨0, _⟩ => exact (Nat.zero_add _).symm | ⟨1, _⟩ => exact (Nat.zero_add _).symm)).trans ?_
  refine (congrFun ((found9 m c).trans (final9 m c)) _).trans ?_
  exact dif_pos k.isLt

/-- The values' rows and heads as the host puts them back together. -/
theorem unpack (f : Vec Ideal S32x1152x512 .bf16) (r : Fin 16384) (k : Fin 1024) :
    shapeCast S16384x1024 (transpose S32x512x8x128 [0, 3, 1, 2] (extractStridedSlice S32x8x128x512 ![0, 0, 0, 0]
      (shapeCast S32x8x144x512 f shapeCasts_S32x1152x512_S32x8x144x512) slices_S32x8x144x512_S32x8x128x512_0_0_0_0)
      transposes_S32x8x128x512_S32x512x8x128_0_3_1_2) shapeCasts_S32x512x8x128_S16384x1024 (ix2 r k)
      = f (ix3 (⟨r.val / 512, by omega⟩ : Fin 32) (⟨k.val / 128 * 144 + k.val % 128, by omega⟩ : Fin 1152) (⟨r.val % 512, by omega⟩ : Fin 512)) := by
  pointwise

/-- The values, put back into rows. -/
theorem tail13 (c : Dev nD) (r : Fin 16384) (k : Fin 1024) :
    Pipeline.afterTail₀ cfgs (dats m) 0 (V0 m) [hostOps1] c main_v13 (ix2 r k) = proj m c r (colPos 2048 1024 (by decide) k) := by
  unfold Pipeline.afterTail₀
  show StableHlo.after hostOps1 _ (Proc.devRef .tc main_v13) (ix2 r k) = _
  after_results
  refine (unpack (found m c (Proc.devRef .tc main_v4_2)) r k).trans ?_
  refine (congrFun ((found6 m c).trans (final6 m c)) _).trans ?_
  show valAt m c _ _ _ = _
  unfold valAt
  have h₁ : (k.val / 128 * 144 + k.val % 128) % 144 = k.val % 128 := by omega
  have h₂ : (k.val / 128 * 144 + k.val % 128) / 144 = k.val / 128 := by omega
  refine (dif_pos (show (k.val / 128 * 144 + k.val % 128) % 144 < 128 by omega)).trans ?_
  exact congrArg₂ (fun q f => proj m c q (colPos 2048 1024 (by decide) f))
    (Fin.ext (show 512 * (r.val / 512) + r.val % 512 = r.val by omega))
    (Fin.ext (show 128 * ((k.val / 128 * 144 + k.val % 128) / 144) + (k.val / 128 * 144 + k.val % 128) % 144 = k.val by omega))

/-- What the host's lines after the call leave in each result of the input projection, and the arguments unchanged. -/
theorem run_tail (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_v12) = Pipeline.afterTail₀ cfgs (dats m) 0 (V0 m) [hostOps1] c main_v12
      ∧ r.2.mem ((c.tc : Thread nD τ).loc main_v13) = Pipeline.afterTail₀ cfgs (dats m) 0 (V0 m) [hostOps1] c main_v13
      ∧ r.2.mem ((c.tc : Thread nD τ).loc main_v14) = Pipeline.afterTail₀ cfgs (dats m) 0 (V0 m) [hostOps1] c main_v14
      ∧ r.2.mem ((c.tc : Thread nD τ).loc main_v15) = Pipeline.afterTail₀ cfgs (dats m) 0 (V0 m) [hostOps1] c main_v15
      ∧ r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨
      (h.1 c).2 main_v11 (Pipeline.mem_restRefs_of main_v11 (by decide) (by decide)),
      (h.1 c).2 main_v12 (Pipeline.mem_restRefs_of main_v12 (by decide) (by decide)),
      (h.1 c).2 main_v13 (Pipeline.mem_restRefs_of main_v13 (by decide) (by decide)),
      (h.1 c).2 main_v14 (Pipeline.mem_restRefs_of main_v14 (by decide) (by decide)),
      (h.1 c).2 main_v15 (Pipeline.mem_restRefs_of main_v15 (by decide) (by decide)),
      (h.1 c).2 main_v16 (Pipeline.mem_restRefs_of main_v16 (by decide) (by decide)),
      h.2 c⟩) (θ_run_and (run_main m g) (unchanged m g))

end Cert.ProjIdeal.Rows

end
-- ==== Proof.ProjRef.lean ====
/- The plain input projection computes the projections of the normalised rows, and the kernel agrees with it. -/
module

public import proofs.«01_k».proof.Proof.ProjTail
public import proofs.«01_k».proof.Proof.Gen.ProjReferenceIdeal.Run
public import proofs.«01_k».proof.Proof.Gen.ProjReferenceIdeal.Read
public import proofs.«01_k».proof.Defs

@[expose] public section

set_option maxRecDepth 16384

noncomputable section

namespace Cert.ProjReferenceIdeal.Rows

open Cert.ProjReferenceIdeal Cert.ProjReferenceIdeal.Read Cert.Layer Cert.ProjIdeal.Rows Idealize.ShloMosaic Idealize.ShloMosaic.TcCoe Idealize.SL.Sem

variable (x0 : (⟨S16384x1024, .f32⟩ : BufTy).Contents (Elt Ideal)) (x1 : (⟨S1024, .f32⟩ : BufTy).Contents (Elt Ideal))
  (x2 : (⟨S1024x5408, .f32⟩ : BufTy).Contents (Elt Ideal))

/-- The reference's normalised row. -/
theorem norm_apply (r : Fin 16384) (i : Fin 1024) :
    val_main_v12 (F := Ideal) x0 x1 (ix2 r i) = normRow (fun k => x0 (ix2 r k)) (fun k => x1 (ix1 k)) i := by
  unfold normRow
  unfold val_main_v12 val_main_v11 val_main_v10 val_main_v9 val_main_v8 val_main_v7 val_main_v6 val_main_v5 val_main_v4 val_main_v3 val_main_v2 val_main_v1 val_main_v0
  unfold val_main_cst val_main_cst_0 val_main_cst_1
  pointwise

/-- The reference's product at a position. -/
theorem all_apply (r : Fin 16384) (f : Fin 5408) :
    val_main_v13 (F := Ideal) x0 x1 x2 (ix2 r f) = projRow (fun k => x0 (ix2 r k)) (fun k => x1 (ix1 k)) fun i => x2 (ix2 i f) := by
  unfold projRow
  simp only [← norm_apply]
  unfold val_main_v13
  generalize val_main_v12 (F := Ideal) x0 x1 = u
  pointwise

/-- The reference's queries. -/
theorem part14 (r : Fin 16384) (k : Fin 1024) : val_main_v14 (F := Ideal) x0 x1 x2 (ix2 r k)
    = projRow (fun k => x0 (ix2 r k)) (fun k => x1 (ix1 k)) fun i => x2 (ix2 i (colPos 0 1024 (by decide) k)) :=
  (val_main_v14_apply x0 x1 x2 (ix2 r k)).trans ((congrArg (val_main_v13 (F := Ideal) x0 x1 x2)
    (funext fun a => Fin.ext (by match a with | ⟨0, _⟩ => (first | rfl | exact Nat.zero_add _) | ⟨1, _⟩ => (first | rfl | exact Nat.zero_add _ | exact (Nat.zero_add _).symm | exact Nat.add_comm _ _)))).trans (all_apply x0 x1 x2 r (colPos 0 1024 (by decide) k)))

/-- The reference's keys. -/
theorem part15 (r : Fin 16384) (k : Fin 1024) : val_main_v15 (F := Ideal) x0 x1 x2 (ix2 r k)
    = projRow (fun k => x0 (ix2 r k)) (fun k => x1 (ix1 k)) fun i => x2 (ix2 i (colPos 1024 1024 (by decide) k)) :=
  (val_main_v15_apply x0 x1 x2 (ix2 r k)).trans ((congrArg (val_main_v13 (F := Ideal) x0 x1 x2)
    (funext fun a => Fin.ext (by match a with | ⟨0, _⟩ => (first | rfl | exact Nat.zero_add _) | ⟨1, _⟩ => (first | rfl | exact Nat.zero_add _ | exact (Nat.zero_add _).symm | exact Nat.add_comm _ _)))).trans (all_apply x0 x1 x2 r (colPos 1024 1024 (by decide) k)))

/-- The reference's values. -/
theorem part16 (r : Fin 16384) (k : Fin 1024) : val_main_v16 (F := Ideal) x0 x1 x2 (ix2 r k)
    = projRow (fun k => x0 (ix2 r k)) (fun k => x1 (ix1 k)) fun i => x2 (ix2 i (colPos 2048 1024 (by decide) k)) :=
  (val_main_v16_apply x0 x1 x2 (ix2 r k)).trans ((congrArg (val_main_v13 (F := Ideal) x0 x1 x2)
    (funext fun a => Fin.ext (by match a with | ⟨0, _⟩ => (first | rfl | exact Nat.zero_add _) | ⟨1, _⟩ => (first | rfl | exact Nat.zero_add _ | exact (Nat.zero_add _).symm | exact Nat.add_comm _ _)))).trans (all_apply x0 x1 x2 r (colPos 2048 1024 (by decide) k)))

/-- The reference's gates. -/
theorem part17 (r : Fin 16384) (k : Fin 1024) : val_main_v17 (F := Ideal) x0 x1 x2 (ix2 r k)
    = projRow (fun k => x0 (ix2 r k)) (fun k => x1 (ix1 k)) fun i => x2 (ix2 i (colPos 3072 1024 (by decide) k)) :=
  (val_main_v17_apply x0 x1 x2 (ix2 r k)).trans ((congrArg (val_main_v13 (F := Ideal) x0 x1 x2)
    (funext fun a => Fin.ext (by match a with | ⟨0, _⟩ => (first | rfl | exact Nat.zero_add _) | ⟨1, _⟩ => (first | rfl | exact Nat.zero_add _ | exact (Nat.zero_add _).symm | exact Nat.add_comm _ _)))).trans (all_apply x0 x1 x2 r (colPos 3072 1024 (by decide) k)))

/-- The reference's convolution's input. -/
theorem part18 (r : Fin 16384) (k : Fin 1280) : val_main_v18 (F := Ideal) x0 x1 x2 (ix2 r k)
    = projRow (fun k => x0 (ix2 r k)) (fun k => x1 (ix1 k)) fun i => x2 (ix2 i (colPos 4096 1280 (by decide) k)) :=
  (val_main_v18_apply x0 x1 x2 (ix2 r k)).trans ((congrArg (val_main_v13 (F := Ideal) x0 x1 x2)
    (funext fun a => Fin.ext (by match a with | ⟨0, _⟩ => (first | rfl | exact Nat.zero_add _) | ⟨1, _⟩ => (first | rfl | exact Nat.zero_add _ | exact (Nat.zero_add _).symm | exact Nat.add_comm _ _)))).trans (all_apply x0 x1 x2 r (colPos 4096 1280 (by decide) k)))

/-- The reference's step widths. -/
theorem part19 (r : Fin 16384) (k : Fin 32) : val_main_v19 (F := Ideal) x0 x1 x2 (ix2 r k)
    = projRow (fun k => x0 (ix2 r k)) (fun k => x1 (ix1 k)) fun i => x2 (ix2 i (colPos 5376 32 (by decide) k)) :=
  (val_main_v19_apply x0 x1 x2 (ix2 r k)).trans ((congrArg (val_main_v13 (F := Ideal) x0 x1 x2)
    (funext fun a => Fin.ext (by match a with | ⟨0, _⟩ => (first | rfl | exact Nat.zero_add _) | ⟨1, _⟩ => (first | rfl | exact Nat.zero_add _ | exact (Nat.zero_add _).symm | exact Nat.add_comm _ _)))).trans (all_apply x0 x1 x2 r (colPos 5376 32 (by decide) k)))

end Cert.ProjReferenceIdeal.Rows

namespace Cert

open Idealize.ShloMosaic Idealize.ShloMosaic.TcCoe Idealize.SL.Sem Cert.Layer

/-- The input projection's kernel computes the plain input projection. -/
theorem proj_algebraic : algebraic_ProjIdeal_ProjReferenceIdeal (hProjIdeal := ProjIdeal.Gen.facts) (hProjReferenceIdeal := ProjReferenceIdeal.Gen.facts) := by
  intro m g m' g' _ hagree
  refine ⟨fun c y => ProjIdeal.Rows.proj m c (y 0) (ProjIdeal.Rows.colPos 0 1024 (by decide) (y 1)),
    fun c y => ProjIdeal.Rows.proj m c (y 0) (ProjIdeal.Rows.colPos 1024 1024 (by decide) (y 1)),
    fun c y => ProjIdeal.Rows.proj m c (y 0) (ProjIdeal.Rows.colPos 2048 1024 (by decide) (y 1)),
    fun c y => ProjIdeal.Rows.proj m c (y 0) (ProjIdeal.Rows.colPos 3072 1024 (by decide) (y 1)),
    fun c y => ProjIdeal.Rows.proj m c (y 0) (ProjIdeal.Rows.colPos 4096 1280 (by decide) (y 1)),
    fun c y => ProjIdeal.Rows.proj m c (y 0) (ProjIdeal.Rows.colPos 5376 32 (by decide) (y 1)),
    (θ_run _ _ _).mono (fun r h c => ?_) (ProjIdeal.Rows.run_tail m g),
    (θ_run _ _ _).mono (fun r h c => ?_) (ProjReferenceIdeal.Value.run m' g')⟩
  · obtain ⟨h0, h1, h2, h3, h4, h5, ha⟩ := h c
    refine ⟨h0.trans (funext fun y => ?_), h1.trans (funext fun y => ?_), h2.trans (funext fun y => ?_), h3.trans (funext fun y => ?_),
      h4.trans (funext fun y => ?_), h5.trans (funext fun y => ?_), ha⟩
    · obtain ⟨r, k, rfl⟩ : ∃ (r : Fin 16384) (k : Fin 1024), y = ix2 r k := ⟨y 0, y 1, eq_ix2 y⟩
      exact ProjIdeal.Rows.tail11 m c r k
    · obtain ⟨r, k, rfl⟩ : ∃ (r : Fin 16384) (k : Fin 1024), y = ix2 r k := ⟨y 0, y 1, eq_ix2 y⟩
      exact ProjIdeal.Rows.tail12 m c r k
    · obtain ⟨r, k, rfl⟩ : ∃ (r : Fin 16384) (k : Fin 1024), y = ix2 r k := ⟨y 0, y 1, eq_ix2 y⟩
      exact ProjIdeal.Rows.tail13 m c r k
    · obtain ⟨r, k, rfl⟩ : ∃ (r : Fin 16384) (k : Fin 1024), y = ix2 r k := ⟨y 0, y 1, eq_ix2 y⟩
      exact ProjIdeal.Rows.tail14 m c r k
    · obtain ⟨r, k, rfl⟩ : ∃ (r : Fin 16384) (k : Fin 1280), y = ix2 r k := ⟨y 0, y 1, eq_ix2 y⟩
      exact ProjIdeal.Rows.tail15 m c r k
    · obtain ⟨r, k, rfl⟩ : ∃ (r : Fin 16384) (k : Fin 32), y = ix2 r k := ⟨y 0, y 1, eq_ix2 y⟩
      exact ProjIdeal.Rows.tail16 m c r k
  · obtain ⟨h0, h1, h2, h3, h4, h5, ha⟩ := h c
    obtain ⟨e0, e1, e2⟩ := hagree c
    refine ⟨h0.trans ((ProjReferenceIdeal.Read.val_main_v14_eq _ _ _).trans ?_), h1.trans ((ProjReferenceIdeal.Read.val_main_v15_eq _ _ _).trans ?_), h2.trans ((ProjReferenceIdeal.Read.val_main_v16_eq _ _ _).trans ?_), h3.trans ((ProjReferenceIdeal.Read.val_main_v17_eq _ _ _).trans ?_), h4.trans ((ProjReferenceIdeal.Read.val_main_v18_eq _ _ _).trans ?_), h5.trans ((ProjReferenceIdeal.Read.val_main_v19_eq _ _ _).trans ?_), ha⟩
    · rw [e0, e1, e2]
      funext y
      obtain ⟨r, k, rfl⟩ : ∃ (r : Fin 16384) (k : Fin 1024), y = ix2 r k := ⟨y 0, y 1, eq_ix2 y⟩
      exact ProjReferenceIdeal.Rows.part14 _ _ _ r k
    · rw [e0, e1, e2]
      funext y
      obtain ⟨r, k, rfl⟩ : ∃ (r : Fin 16384) (k : Fin 1024), y = ix2 r k := ⟨y 0, y 1, eq_ix2 y⟩
      exact ProjReferenceIdeal.Rows.part15 _ _ _ r k
    · rw [e0, e1, e2]
      funext y
      obtain ⟨r, k, rfl⟩ : ∃ (r : Fin 16384) (k : Fin 1024), y = ix2 r k := ⟨y 0, y 1, eq_ix2 y⟩
      exact ProjReferenceIdeal.Rows.part16 _ _ _ r k
    · rw [e0, e1, e2]
      funext y
      obtain ⟨r, k, rfl⟩ : ∃ (r : Fin 16384) (k : Fin 1024), y = ix2 r k := ⟨y 0, y 1, eq_ix2 y⟩
      exact ProjReferenceIdeal.Rows.part17 _ _ _ r k
    · rw [e0, e1, e2]
      funext y
      obtain ⟨r, k, rfl⟩ : ∃ (r : Fin 16384) (k : Fin 1280), y = ix2 r k := ⟨y 0, y 1, eq_ix2 y⟩
      exact ProjReferenceIdeal.Rows.part18 _ _ _ r k
    · rw [e0, e1, e2]
      funext y
      obtain ⟨r, k, rfl⟩ : ∃ (r : Fin 16384) (k : Fin 32), y = ix2 r k := ⟨y 0, y 1, eq_ix2 y⟩
      exact ProjReferenceIdeal.Rows.part19 _ _ _ r k

end Cert

end
-- ==== Proof.lean ====
/- The claims proved: the frames of the four kernels, of their idealizations and of the references, that the
   idealizations keep the kernels' operations, and that the two feed-forward kernels and the input projection's
   compute their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.KLaunch
public import proofs.«01_k».proof.Proof.Launch
public import proofs.«01_k».proof.Proof.FfnRef
public import proofs.«01_k».proof.Proof.MixRef
public import proofs.«01_k».proof.Proof.ProjRef
public import Idealize.ShloMosaic.Adequacy
public import Idealize.ShloMosaic.Init

@[expose] public section

noncomputable section

namespace Cert.Proof

open Idealize.ShloMosaic Idealize.SL.Sem

/-- The reference runs on the host alone: it leaves the arguments, and there is no semaphore to leave. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The same of the feed-forward reference. -/
theorem ffn_reference_frame : Cert.quiescent_FfnReferenceIdeal := fun m g _ =>
  (θ_run _ _ _).mono (fun r h => ⟨fun c => (h c).2, sem_eq_zero_of_no_sems (by decide) r.2⟩) (Cert.FfnReferenceIdeal.Value.run m g)

/-- The same of the closing reference. -/
theorem mix_reference_frame : Cert.quiescent_MixReferenceIdeal := fun m g _ =>
  (θ_run _ _ _).mono (fun r h => ⟨fun c => (h c).2, sem_eq_zero_of_no_sems (by decide) r.2⟩) (Cert.MixReferenceIdeal.Value.run m g)

/-- The same of the input projection's reference. -/
theorem proj_reference_frame : Cert.quiescent_ProjReferenceIdeal := fun m g _ =>
  (θ_run _ _ _).mono (fun r h => ⟨fun c => (h c).2.2.2.2.2.2, sem_eq_zero_of_no_sems (by decide) r.2⟩) (Cert.ProjReferenceIdeal.Value.run m g)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Mix.Gen.facts, Cert.MixIdeal.Gen.facts, Cert.MixReferenceIdeal.Gen.facts,
  Cert.Proj.Gen.facts, Cert.ProjIdeal.Gen.facts, Cert.ProjReferenceIdeal.Gen.facts,
  fun m g _ => Cert.Kernel.Att.frame m g, fun m g _ => Cert.KernelIdeal.Att.frame m g, reference_frame,
  fun m g _ => Cert.Ffn.Gen.frame m g, fun m g _ => Cert.FfnIdeal.Gen.frame m g, ffn_reference_frame,
  fun m g _ => Cert.Mix.Gen.frame m g, fun m g _ => Cert.MixIdeal.Gen.frame m g, mix_reference_frame,
  fun m g _ => Cert.Proj.Gen.frame m g, fun m g _ => Cert.ProjIdeal.Gen.frame m g, proj_reference_frame,
  trivial, trivial, Cert.ffn_algebraic, trivial, Cert.mix_algebraic, trivial, Cert.proj_algebraic⟩

end Cert.Proof

end
